-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x2048x1536 : Shape := ⟨3, ![16, 2048, 1536]⟩
abbrev S8960x768 : Shape := ⟨2, ![8960, 768]⟩
abbrev S8960x96 : Shape := ⟨2, ![8960, 96]⟩
abbrev S1 : Shape := ⟨1, ![1]⟩
abbrev S32768x1536 : Shape := ⟨2, ![32768, 1536]⟩
abbrev S32768x8960 : Shape := ⟨2, ![32768, 8960]⟩
abbrev S1024x1536 : Shape := ⟨2, ![1024, 1536]⟩
abbrev S1280x768 : Shape := ⟨2, ![1280, 768]⟩
abbrev S1280x96 : Shape := ⟨2, ![1280, 96]⟩
abbrev S1024x1280 : Shape := ⟨2, ![1024, 1280]⟩
abbrev S1536x8960 : Shape := ⟨2, ![1536, 8960]⟩
abbrev S96x256 : Shape := ⟨2, ![96, 256]⟩
abbrev S256x96 : Shape := ⟨2, ![256, 96]⟩
abbrev S256x256 : Shape := ⟨2, ![256, 256]⟩
abbrev S128x128 : Shape := ⟨2, ![128, 128]⟩
abbrev S256x128 : Shape := ⟨2, ![256, 128]⟩
abbrev S1x128 : Shape := ⟨2, ![1, 128]⟩
abbrev S16x128 : Shape := ⟨2, ![16, 128]⟩
abbrev S1536x1280 : Shape := ⟨2, ![1536, 1280]⟩

abbrev nBuf : Space → Nat
  | .hbm => 6
  | .vmem => 10
  | .smem => 1
  | _ => 0

abbrev bufTy : (tb : Table) → Fin (tcTables nBuf tb) → BufTy
  | .hbm, ⟨0, _⟩ => ⟨S16x2048x1536, .bf16⟩
  | .hbm, ⟨1, _⟩ => ⟨S8960x768, .i8⟩
  | .hbm, ⟨2, _⟩ => ⟨S8960x96, .fp8e4m3⟩
  | .hbm, ⟨3, _⟩ => ⟨S1, .f32⟩
  | .hbm, ⟨4, _⟩ => ⟨S32768x1536, .bf16⟩
  | .hbm, ⟨5, _⟩ => ⟨S32768x8960, .bf16⟩
  | .local _ .vmem, ⟨0, _⟩ => ⟨S1024x1536, .bf16⟩
  | .local _ .vmem, ⟨1, _⟩ => ⟨S1024x1536, .bf16⟩
  | .local _ .vmem, ⟨2, _⟩ => ⟨S1280x768, .i8⟩
  | .local _ .vmem, ⟨3, _⟩ => ⟨S1280x768, .i8⟩
  | .local _ .vmem, ⟨4, _⟩ => ⟨S1280x96, .fp8e4m3⟩
  | .local _ .vmem, ⟨5, _⟩ => ⟨S1280x96, .fp8e4m3⟩
  | .local _ .vmem, ⟨6, _⟩ => ⟨S1024x1280, .bf16⟩
  | .local _ .vmem, ⟨7, _⟩ => ⟨S1024x1280, .bf16⟩
  | .local _ .vmem, ⟨8, _⟩ => ⟨S1536x8960, .bf16⟩
  | .local _ .vmem, ⟨9, _⟩ => ⟨S96x256, .f32⟩
  | .local _ .smem, ⟨0, _⟩ => ⟨S1, .f32⟩
  | _, _ => ⟨S16x2048x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 7], ![false, false]⟩

def k0_mult1 (i : grid0.Coords) : BitVec 32 :=
  let arg1 : BitVec 32 := BitVec.ofNat 32 (i 1).val
  let c1280_i32 : BitVec 32 := 1280#32
  let v0 : BitVec 32 := Scalar.muli arg1 c1280_i32
  v0
def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def k0_off1 (i : grid0.Coords) (c0_i32_32 : BitVec 32) (c0_i32_33 : BitVec 32) : Fin 2 → Nat :=
  let c0_34 : Index := 0#32
  let arg1 : BitVec 32 := BitVec.ofNat 32 (i 1).val
  let c1280_i32 : BitVec 32 := 1280#32
  let v0 : BitVec 32 := Scalar.muli arg1 c1280_i32
  let v1 : BitVec 32 := v0
  let v162 : BitVec 32 := Scalar.addi v1 c0_i32_32
  let v163 : BitVec 32 := Scalar.addi v162 c0_i32_33
  let v164 : Index := Scalar.indexCast v163
  ![0, v164.toNat]
def k0_off2 (i : grid0.Coords) (c0_i32_96 : BitVec 32) (c0_i32_97 : BitVec 32) : Fin 2 → Nat :=
  let c256 : Index := 256#32
  let arg1 : BitVec 32 := BitVec.ofNat 32 (i 1).val
  let c1280_i32 : BitVec 32 := 1280#32
  let v0 : BitVec 32 := Scalar.muli arg1 c1280_i32
  let v1 : BitVec 32 := v0
  let v406 : BitVec 32 := Scalar.addi v1 c0_i32_96
  let v407 : BitVec 32 := Scalar.addi v406 c0_i32_97
  let v408 : Index := Scalar.indexCast v407
  ![256, v408.toNat]
def k0_off3 (i : grid0.Coords) (c0_i32_170 : BitVec 32) (c0_i32_171 : BitVec 32) : Fin 2 → Nat :=
  let c512 : Index := 512#32
  let arg1 : BitVec 32 := BitVec.ofNat 32 (i 1).val
  let c1280_i32 : BitVec 32 := 1280#32
  let v0 : BitVec 32 := Scalar.muli arg1 c1280_i32
  let v1 : BitVec 32 := v0
  let v673 : BitVec 32 := Scalar.addi v1 c0_i32_170
  let v674 : BitVec 32 := Scalar.addi v673 c0_i32_171
  let v675 : Index := Scalar.indexCast v674
  ![512, v675.toNat]
def k0_off4 (i : grid0.Coords) (c0_i32_237 : BitVec 32) (c0_i32_238 : BitVec 32) : Fin 2 → Nat :=
  let c768 : Index := 768#32
  let arg1 : BitVec 32 := BitVec.ofNat 32 (i 1).val
  let c1280_i32 : BitVec 32 := 1280#32
  let v0 : BitVec 32 := Scalar.muli arg1 c1280_i32
  let v1 : BitVec 32 := v0
  let v917 : BitVec 32 := Scalar.addi v1 c0_i32_237
  let v918 : BitVec 32 := Scalar.addi v917 c0_i32_238
  let v919 : Index := Scalar.indexCast v918
  ![768, v919.toNat]
def k0_off5 (i : grid0.Coords) (c0_i32_311 : BitVec 32) (c0_i32_312 : BitVec 32) : Fin 2 → Nat :=
  let c1024 : Index := 1024#32
  let arg1 : BitVec 32 := BitVec.ofNat 32 (i 1).val
  let c1280_i32 : BitVec 32 := 1280#32
  let v0 : BitVec 32 := Scalar.muli arg1 c1280_i32
  let v1 : BitVec 32 := v0
  let v1184 : BitVec 32 := Scalar.addi v1 c0_i32_311
  let v1185 : BitVec 32 := Scalar.addi v1184 c0_i32_312
  let v1186 : Index := Scalar.indexCast v1185
  ![1024, v1186.toNat]
def k0_off6 (i : grid0.Coords) (c0_i32_378 : BitVec 32) (c0_i32_379 : BitVec 32) : Fin 2 → Nat :=
  let c1280 : Index := 1280#32
  let arg1 : BitVec 32 := BitVec.ofNat 32 (i 1).val
  let c1280_i32 : BitVec 32 := 1280#32
  let v0 : BitVec 32 := Scalar.muli arg1 c1280_i32
  let v1 : BitVec 32 := v0
  let v1428 : BitVec 32 := Scalar.addi v1 c0_i32_378
  let v1429 : BitVec 32 := Scalar.addi v1428 c0_i32_379
  let v1430 : Index := Scalar.indexCast v1429
  ![1280, v1430.toNat]
def k0_off7 (i : grid0.Coords) : Fin 2 → Nat :=
  let c0_2 : Index := 0#32
  let arg1 : BitVec 32 := BitVec.ofNat 32 (i 1).val
  let c1280_i32 : BitVec 32 := 1280#32
  let v0 : BitVec 32 := Scalar.muli arg1 c1280_i32
  let v1 : BitVec 32 := v0
  let v7 : Index := Scalar.indexCast v1
  ![0, v7.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c6_i32 : BitVec 32 := 6#32
  let v1 : BitVec 32 := Scalar.select v0 arg1 c6_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c6_i32 : BitVec 32 := 6#32
  let v1 : BitVec 32 := Scalar.select v0 arg1 c6_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1280x768 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1280x96 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1280 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S16x2048x1536 : Shape := ⟨3, ![16, 2048, 1536]⟩
abbrev S8960x768 : Shape := ⟨2, ![8960, 768]⟩
abbrev S8960x96 : Shape := ⟨2, ![8960, 96]⟩
abbrev S1 : Shape := ⟨1, ![1]⟩
abbrev S_ : Shape := ⟨0, ![]⟩
abbrev S8960x768x1 : Shape := ⟨3, ![8960, 768, 1]⟩
abbrev S8960x768x2 : Shape := ⟨3, ![8960, 768, 2]⟩
abbrev S8960x1536 : Shape := ⟨2, ![8960, 1536]⟩
abbrev S8960x96x16 : Shape := ⟨3, ![8960, 96, 16]⟩
abbrev S8960x96x1 : Shape := ⟨3, ![8960, 96, 1]⟩
abbrev S16x2048x8960 : Shape := ⟨3, ![16, 2048, 8960]⟩
abbrev S32768x8960 : Shape := ⟨2, ![32768, 8960]⟩

abbrev nBuf : Space → Nat
  | .hbm => 76
  | .vmem => 2
  | .smem => 0
  | _ => 0

abbrev bufTy : (tb : Table) → Fin (tcTables nBuf tb) → BufTy
  | .hbm, ⟨0, _⟩ => ⟨S16x2048x1536, .bf16⟩
  | .hbm, ⟨1, _⟩ => ⟨S8960x768, .i8⟩
  | .hbm, ⟨2, _⟩ => ⟨S8960x96, .fp8e4m3⟩
  | .hbm, ⟨3, _⟩ => ⟨S1, .f32⟩
  | .hbm, ⟨4, _⟩ => ⟨S8960x768, .i32⟩
  | .hbm, ⟨5, _⟩ => ⟨S_, .i32⟩
  | .hbm, ⟨6, _⟩ => ⟨S8960x768, .i32⟩
  | .hbm, ⟨7, _⟩ => ⟨S8960x768, .i32⟩
  | .hbm, ⟨8, _⟩ => ⟨S_, .i32⟩
  | .hbm, ⟨9, _⟩ => ⟨S8960x768, .i32⟩
  | .hbm, ⟨10, _⟩ => ⟨S8960x768, .i32⟩
  | .hbm, ⟨11, _⟩ => ⟨S8960x768x1, .i32⟩
  | .hbm, ⟨12, _⟩ => ⟨S8960x768x1, .i32⟩
  | .hbm, ⟨13, _⟩ => ⟨S8960x768x2, .i32⟩
  | .hbm, ⟨14, _⟩ => ⟨S8960x1536, .i32⟩
  | .hbm, ⟨15, _⟩ => ⟨S8960x96, .bf16⟩
  | .hbm, ⟨16, _⟩ => ⟨S_, .i32⟩
  | .hbm, ⟨17, _⟩ => ⟨S8960x1536, .i32⟩
  | .hbm, ⟨18, _⟩ => ⟨S8960x1536, .i32⟩
  | .hbm, ⟨19, _⟩ => ⟨S_, .i32⟩
  | .hbm, ⟨20, _⟩ => ⟨S8960x1536, .i32⟩
  | .hbm, ⟨21, _⟩ => ⟨S8960x1536, .i1⟩
  | .hbm, ⟨22, _⟩ => ⟨S_, .i32⟩
  | .hbm, ⟨23, _⟩ => ⟨S8960x1536, .i32⟩
  | .hbm, ⟨24, _⟩ => ⟨S8960x1536, .i32⟩
  | .hbm, ⟨25, _⟩ => ⟨S_, .i32⟩
  | .hbm, ⟨26, _⟩ => ⟨S8960x1536, .i32⟩
  | .hbm, ⟨27, _⟩ => ⟨S8960x1536, .i1⟩
  | .hbm, ⟨28, _⟩ => ⟨S_, .i32⟩
  | .hbm, ⟨29, _⟩ => ⟨S8960x1536, .i32⟩
  | .hbm, ⟨30, _⟩ => ⟨S8960x1536, .i32⟩
  | .hbm, ⟨31, _⟩ => ⟨S_, .i32⟩
  | .hbm, ⟨32, _⟩ => ⟨S8960x1536, .i32⟩
  | .hbm, ⟨33, _⟩ => ⟨S8960x1536, .i1⟩
  | .hbm, ⟨34, _⟩ => ⟨S_, .i32⟩
  | .hbm, ⟨35, _⟩ => ⟨S8960x1536, .i32⟩
  | .hbm, ⟨36, _⟩ => ⟨S8960x1536, .i32⟩
  | .hbm, ⟨37, _⟩ => ⟨S_, .i32⟩
  | .hbm, ⟨38, _⟩ => ⟨S8960x1536, .i32⟩
  | .hbm, ⟨39, _⟩ => ⟨S8960x1536, .i1⟩
  | .hbm, ⟨40, _⟩ => ⟨S_, .bf16⟩
  | .hbm, ⟨41, _⟩ => ⟨S_, .bf16⟩
  | .hbm, ⟨42, _⟩ => ⟨S8960x1536, .bf16⟩
  | .hbm, ⟨43, _⟩ => ⟨S8960x1536, .bf16⟩
  | .hbm, ⟨44, _⟩ => ⟨S8960x1536, .bf16⟩
  | .hbm, ⟨45, _⟩ => ⟨S_, .bf16⟩
  | .hbm, ⟨46, _⟩ => ⟨S_, .bf16⟩
  | .hbm, ⟨47, _⟩ => ⟨S8960x1536, .bf16⟩
  | .hbm, ⟨48, _⟩ => ⟨S8960x1536, .bf16⟩
  | .hbm, ⟨49, _⟩ => ⟨S8960x1536, .bf16⟩
  | .hbm, ⟨50, _⟩ => ⟨S8960x1536, .bf16⟩
  | .hbm, ⟨51, _⟩ => ⟨S_, .bf16⟩
  | .hbm, ⟨52, _⟩ => ⟨S_, .bf16⟩
  | .hbm, ⟨53, _⟩ => ⟨S8960x1536, .bf16⟩
  | .hbm, ⟨54, _⟩ => ⟨S8960x1536, .bf16⟩
  | .hbm, ⟨55, _⟩ => ⟨S8960x1536, .bf16⟩
  | .hbm, ⟨56, _⟩ => ⟨S_, .bf16⟩
  | .hbm, ⟨57, _⟩ => ⟨S_, .bf16⟩
  | .hbm, ⟨58, _⟩ => ⟨S8960x1536, .bf16⟩
  | .hbm, ⟨59, _⟩ => ⟨S8960x1536, .bf16⟩
  | .hbm, ⟨60, _⟩ => ⟨S8960x1536, .bf16⟩
  | .hbm, ⟨61, _⟩ => ⟨S8960x1536, .bf16⟩
  | .hbm, ⟨62, _⟩ => ⟨S8960x1536, .bf16⟩
  | .hbm, ⟨63, _⟩ => ⟨S8960x1536, .bf16⟩
  | .hbm, ⟨64, _⟩ => ⟨S8960x1536, .bf16⟩
  | .hbm, ⟨65, _⟩ => ⟨S8960x96x16, .bf16⟩
  | .hbm, ⟨66, _⟩ => ⟨S8960x96x1, .bf16⟩
  | .hbm, ⟨67, _⟩ => ⟨S8960x96x16, .bf16⟩
  | .hbm, ⟨68, _⟩ => ⟨S8960x96x16, .bf16⟩
  | .hbm, ⟨69, _⟩ => ⟨S8960x1536, .bf16⟩
  | .hbm, ⟨70, _⟩ => ⟨S16x2048x8960, .f32⟩
  | .hbm, ⟨71, _⟩ => ⟨S_, .f32⟩
  | .hbm, ⟨72, _⟩ => ⟨S16x2048x8960, .f32⟩
  | .hbm, ⟨73, _⟩ => ⟨S16x2048x8960, .f32⟩
  | .hbm, ⟨74, _⟩ => ⟨S16x2048x8960, .bf16⟩
  | .hbm, ⟨75, _⟩ => ⟨S32768x8960, .bf16⟩
  | .local _ .vmem, ⟨0, _⟩ => ⟨S8960x96, .fp8e4m3⟩
  | .local _ .vmem, ⟨1, _⟩ => ⟨S8960x96, .bf16⟩
  | _, _ => ⟨S16x2048x1536, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_c_3 : Ref sig .tc := ⟨.hbm, 22, rfl⟩
abbrev main_v14 : Ref sig .tc := ⟨.hbm, 23, rfl⟩
abbrev main_v15 : Ref sig .tc := ⟨.hbm, 24, rfl⟩
abbrev main_c_4 : Ref sig .tc := ⟨.hbm, 25, rfl⟩
abbrev main_v16 : Ref sig .tc := ⟨.hbm, 26, rfl⟩
abbrev main_v17 : Ref sig .tc := ⟨.hbm, 27, rfl⟩
abbrev main_c_5 : Ref sig .tc := ⟨.hbm, 28, rfl⟩
abbrev main_v18 : Ref sig .tc := ⟨.hbm, 29, rfl⟩
abbrev main_v19 : Ref sig .tc := ⟨.hbm, 30, rfl⟩
abbrev main_c_6 : Ref sig .tc := ⟨.hbm, 31, rfl⟩
abbrev main_v20 : Ref sig .tc := ⟨.hbm, 32, rfl⟩
abbrev main_v21 : Ref sig .tc := ⟨.hbm, 33, rfl⟩
abbrev main_c_7 : Ref sig .tc := ⟨.hbm, 34, rfl⟩
abbrev main_v22 : Ref sig .tc := ⟨.hbm, 35, rfl⟩
abbrev main_v23 : Ref sig .tc := ⟨.hbm, 36, rfl⟩
abbrev main_c_8 : Ref sig .tc := ⟨.hbm, 37, rfl⟩
abbrev main_v24 : Ref sig .tc := ⟨.hbm, 38, rfl⟩
abbrev main_v25 : Ref sig .tc := ⟨.hbm, 39, rfl⟩
abbrev main_cst : Ref sig .tc := ⟨.hbm, 40, rfl⟩
abbrev main_cst_9 : Ref sig .tc := ⟨.hbm, 41, rfl⟩
abbrev main_call0_v0 : Ref sig .tc := ⟨.hbm, 42, rfl⟩
abbrev main_call0_v1 : Ref sig .tc := ⟨.hbm, 43, rfl⟩
abbrev main_v26 : Ref sig .tc := ⟨.hbm, 44, rfl⟩
abbrev main_cst_10 : Ref sig .tc := ⟨.hbm, 45, rfl⟩
abbrev main_cst_11 : Ref sig .tc := ⟨.hbm, 46, rfl⟩
abbrev main_call1_v0 : Ref sig .tc := ⟨.hbm, 47, rfl⟩
abbrev main_call1_v1 : Ref sig .tc := ⟨.hbm, 48, rfl⟩
abbrev main_v27 : Ref sig .tc := ⟨.hbm, 49, rfl⟩
abbrev main_v28 : Ref sig .tc := ⟨.hbm, 50, rfl⟩
abbrev main_cst_12 : Ref sig .tc := ⟨.hbm, 51, rfl⟩
abbrev main_cst_13 : Ref sig .tc := ⟨.hbm, 52, rfl⟩
abbrev main_call3_v0 : Ref sig .tc := ⟨.hbm, 53, rfl⟩
abbrev main_call3_v1 : Ref sig .tc := ⟨.hbm, 54, rfl⟩
abbrev main_v29 : Ref sig .tc := ⟨.hbm, 55, rfl⟩
abbrev main_cst_14 : Ref sig .tc := ⟨.hbm, 56, rfl⟩
abbrev main_cst_15 : Ref sig .tc := ⟨.hbm, 57, rfl⟩
abbrev main_call4_v0 : Ref sig .tc := ⟨.hbm, 58, rfl⟩
abbrev main_call4_v1 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8960x96 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8960x96 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Setup.lean ====
/-
  The grid of the idealized kernel and the buffers of its body: when the body decodes weights (the first seven points),
  the staging buffer of each window at a point, the two scratch buffers, and the class invariant written with them.
-/
module

public import proofs.«01_k».proof.Proof.Gen.KernelIdeal.Frame
public import proofs.«01_k».proof.Proof.Gen.KernelIdeal.Skeleton

@[expose] public section

set_option maxRecDepth 16384

noncomputable section

namespace Cert.KernelIdeal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the points before point 7 — by arithmetic of the point. -/
theorem hcond0_0 : ∀ t : Fin cfg0.N, cond0_0 (grid0.coords t) ↔ t.val < 7 :=
  (fun t => by
    have ht : t.val < 224 := Nat.lt_of_lt_of_eq t.isLt N_0
    have e0 : (grid0.coords t 0).val = t.val / 7 % 32 := Pipeline.Grid.coords_val t 0 (by decide) rfl
    have e1 : (grid0.coords t 1).val = t.val / 1 % 7 := Pipeline.Grid.coords_val t 1 (by decide) rfl
    simp only [cond0_0, k0_cond1, e0, e1]
    word_cmp
   : ∀ t : Fin grid0.N, cond0_0 (grid0.coords t) ↔ t.val < 7)

/-! ## The kernel body on any staging memrefs: a subtype the run finds -/

/-- Each window's current staging memref at point `t`, spelled as the pipeline passes it (`bodyAt0`), and its wholeness. -/
abbrev ms0_0 (t : Fin cfg0.N) : Memref sig .tc .smem S1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1536 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1280x768 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1280x96 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1280 .bf16 := win0_4.stage (cfg0.slots t 4)
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S1536x8960 .bf16 := Memref.whole cc0_scratch0
abbrev scM0_1 : Memref sig .tc .vmem S96x256 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal

end
-- ==== Proof.BodyLater.lean ====
/-
  The body at a point that decodes nothing: the weights scratch stays as it is and the output block is the product.
-/
module

public import proofs.«01_k».proof.Proof.Setup
public import Idealize.ShloMosaic.Lib.VecWindow

@[expose] public section

set_option maxRecDepth 16384

noncomputable section

namespace Cert.KernelIdeal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The output block of the body at grid coordinates `i`: the block of `x` times the columns of the weights scratch that
    belong to the point, times the global scale. -/
def outBlock (i : grid0.Coords) (x0 : Vec F S1 .f32) (x1 : Vec F S1024x1536 .bf16) (w : Vec F S1536x8960 .bf16) : Vec F S1024x1280 .bf16 :=
  k0_pay3 x1 (VecWindow.window w (k0_off7 i) S1536x1280.size (k0_off7_inb i)) (x0 fun a => ⟨0, (by decide : ∀ a, 0 < S1.size a) a⟩)

set_option maxHeartbeats 1000000 in
/-- The body's triple when it decodes nothing: the inputs and the weights scratch are handed back unchanged, the output
    buffer holds the output block. -/
theorem run_later (c : Dev nD) (i : grid0.Coords) (arg2 : Memref sig .tc .smem S1 .f32) (harg2 : arg2.IsWhole) (arg3 : Memref sig .tc .vmem S1024x1536 .bf16) (harg3 : arg3.IsWhole) (arg4 : Memref sig .tc .vmem S1280x768 .i8) (harg4 : arg4.IsWhole) (arg5 : Memref sig .tc .vmem S1280x96 .fp8e4m3) (harg5 : arg5.IsWhole) (arg6 : Memref sig .tc .vmem S1024x1280 .bf16) (harg6 : arg6.IsWhole) (arg7 : Memref sig .tc .vmem S1536x8960 .bf16) (harg7 : arg7.IsWhole) (arg8 : Memref sig .tc .vmem S96x256 .f32) (harg8 : arg8.IsWhole) (hc0 : ¬cond0_0 i)
    (x0 : Vec F S1 .f32) (x1 : Vec F S1024x1536 .bf16) (x2 : Vec F S1280x768 .i8) (x3 : Vec F S1280x96 .fp8e4m3) (w : Vec F S1536x8960 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare w ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (outBlock i x0 x1 w) ∗ owns (c : Thread nD τ) arg7 fullShare w ∗ (∃ d, owns (c : Thread nD τ) arg8 fullShare d)) -∗ K ⟨⟩))
          ⊢ wp frame (wpE (defs₀ (F := F)) Variants.none c none) E (cc0__body i arg2 harg2 arg3 harg3 arg4 harg4 arg5 harg5 arg6 harg6 arg7 harg7 arg8 harg8) K := by
    intro E K
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%ds1, %fs1, -, HS1⟩, Hk⟩
    obtain rfl := harg2.eq_unread hf0; obtain rfl := harg3.eq_unread hf1; obtain rfl := harg4.eq_unread hf2; obtain rfl := harg5.eq_unread hf3
    obtain rfl := harg7.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      rw [View.read_writes_full, View.readAt_full, View.readAt_unit _ _ _ rfl (k0_off7_inb i), hf1, hfs0]
      unfold run_later.sl.r
      rw [View.readAt_full, hf0]
      rfl
    isplitl [HS0]
    · iexists _; isplitr; · ipureintro; exact harg7.read_unread _
      iexact HS0
    iexists _, _; isplitr; swap; · iexact HS1
    ipureintro; rfl

end Cert.KernelIdeal

end
-- ==== Proof.BodyFirst.lean ====
/-
  The body at a point that decodes its chunk of the weights: what the run leaves in the weights scratch (found by the run),
  and the output block, the product with that scratch.
-/
module

public import proofs.«01_k».proof.Proof.BodyLater
public import Idealize.ShloMosaic.Lib.VecWindow

@[expose] public section

set_option maxRecDepth 16384

noncomputable section

namespace Cert.KernelIdeal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 6900000 in
/-- The body's triple when it decodes: the inputs are handed back unchanged, the weights scratch holds what the run finds,
    and the output buffer holds the output block over that scratch. -/
def run_first (c : Dev nD) (i : grid0.Coords) (arg2 : Memref sig .tc .smem S1 .f32) (harg2 : arg2.IsWhole) (arg3 : Memref sig .tc .vmem S1024x1536 .bf16) (harg3 : arg3.IsWhole) (arg4 : Memref sig .tc .vmem S1280x768 .i8) (harg4 : arg4.IsWhole) (arg5 : Memref sig .tc .vmem S1280x96 .fp8e4m3) (harg5 : arg5.IsWhole) (arg6 : Memref sig .tc .vmem S1024x1280 .bf16) (harg6 : arg6.IsWhole) (arg7 : Memref sig .tc .vmem S1536x8960 .bf16) (harg7 : arg7.IsWhole) (arg8 : Memref sig .tc .vmem S96x256 .f32) (harg8 : arg8.IsWhole) (hc0 : cond0_0 i)
    (x0 : Vec F S1 .f32) (x1 : Vec F S1024x1536 .bf16) (x2 : Vec F S1280x768 .i8) (x3 : Vec F S1280x96 .fp8e4m3) (w : Vec F S1536x8960 .bf16) :
      { L : List (View.Piece (Elt F) S1536x8960 .bf16) // ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare w ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (outBlock i x0 x1 (arg7.view.read (Elt F) (arg7.view.writes (Elt F) arg7.view.junk L))) ∗ owns (c : Thread nD τ) arg7 fullShare (arg7.view.read (Elt F) (arg7.view.writes (Elt F) (harg7.unread w) L)) ∗ (∃ d, owns (c : Thread nD τ) arg8 fullShare d)) -∗ K ⟨⟩))
          ⊢ wp frame (wpE (defs₀ (F := F)) Variants.none c none) E (cc0__body i arg2 harg2 arg3 harg3 arg4 harg4 arg5 harg5 arg6 harg6 arg7 harg7 arg8 harg8) K } := by
    refine ⟨?_, fun E K => ?run⟩
    case run =>
    simp only [cc0__body_eq_skeleton]; unfold cc0__body_skel
    simp only [k0_part174_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part175_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part176_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%ds1, %fs1, -, HS1⟩, Hk⟩
    obtain rfl := harg2.eq_unread hf0; obtain rfl := harg3.eq_unread hf1; obtain rfl := harg4.eq_unread hf2; obtain rfl := harg5.eq_unread hf3
    obtain rfl := harg7.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; rotate_left
    isplitl [HS0]
    · iexists _; isplitr; swap; · iexact HS0
      ipureintro; rfl
    · iexists _, _; isplitr; swap; · iexact HS1
      ipureintro; rfl
    · iexists _; isplitr; swap; · iexact H4
      ipureintro
      rw [View.read_writes_full, View.readAt_full, hf1]
      unfold run_first.sl.v8
      unfold run_first.sl.r_958
      rw [View.readAt_full, hf0]
      rfl

end Cert.KernelIdeal

end
-- ==== Proof.Tile.lean ====
/-
  The tile one store of the decode writes: 256 rows of the weights by 128 columns. Its codes are read from a slot of the
  128 × 128 words, each band of 16 rows is multiplied by its row of scales, and the 16 bands are stacked. The weights
  scratch after the first `n` tiles of a chunk are stored, and one more store.
-/
module

public import proofs.«01_k».proof.Proof.Setup
public import Idealize.ShloMosaic.Lib.VecWindow
public import Idealize.ShloMosaic.Lib.ValueIdx

@[expose] public section

set_option maxRecDepth 16384

noncomputable section

namespace Cert.KernelIdeal

open Cert.KernelIdeal.Gen
open Idealize.ShloMosaic Idealize.ShloMosaic.TcCoe

variable {F : FTy → Type} [FloatOps F]

/-- The words of a slot, moved so that the magnitude bits of two codes stand under the mask. -/
def magShift (s : ℕ) (t : IVec S128x128 32) : IVec S128x128 32 :=
  match s with
  | 0 => shli t (broadcast S128x128 6#32)
  | 1 => shli t (broadcast S128x128 2#32)
  | 2 => shrui t (broadcast S128x128 2#32)
  | _ => shrui t (broadcast S128x128 6#32)

/-- The words of a slot, moved so that the sign bits of two codes stand under the mask. -/
def sgnShift (s : ℕ) (t : IVec S128x128 32) : IVec S128x128 32 :=
  match s with
  | 0 => shli t (broadcast S128x128 12#32)
  | 1 => shli t (broadcast S128x128 8#32)
  | 2 => shli t (broadcast S128x128 4#32)
  | _ => t

/-- The magnitude patterns of a slot, two bf16 patterns to a word. -/
def magBits (s : ℕ) (t : IVec S128x128 32) : FVec F S256x128 .bf16 :=
  bitcastToFloat .bf16 (bitcast S256x128 16 (addi (andi (magShift s t) (broadcast S128x128 29360576#32)) (broadcast S128x128 1056980736#32))
    bitcasts_S128x128_w32_S256x128_w16)

/-- The signs of a slot, as plus or minus one. -/
def sgnBits (s : ℕ) (t : IVec S128x128 32) : FVec F S256x128 .bf16 :=
  bitcastToFloat .bf16 (bitcast S256x128 16 (ori (broadcast S128x128 1065369472#32) (andi (sgnShift s t) (broadcast S128x128 2147516416#32)))
    bitcasts_S128x128_w32_S256x128_w16)

/-- The decoded codes of a slot. -/
def codes (s : ℕ) (t : IVec S128x128 32) : FVec F S256x128 .bf16 :=
  mulf (minimumf (magBits s t) (addf (subf (magBits s t) (broadcast S256x128 (Scalar.ofBits .bf16 0x3F80#16))) (magBits s t))) (sgnBits s t)

/-- A band of 16 rows lies in the tile. -/
theorem slices_band (r : Fin 16) : S256x128.Slices ![16 * r.val, 0] S16x128 :=
  ⟨rfl, fun a => by
    have := r.isLt
    refine Fin.cases ?_ (fun b => Fin.cases ?_ (fun b => b.elim0) b) a
    · show 16 * r.val + 16 ≤ 256; omega
    · show 0 + 128 ≤ 128; omega⟩

/-- Band `r` of the tile: its 16 rows of codes times its row of scales. -/
def band (w : FVec F S256x128 .bf16) (row : Vec F S1x128 .f32) (r : Fin 16) : FVec F S16x128 .bf16 :=
  mulf (extractStridedSlice S16x128 ![16 * r.val, 0] w (slices_band r))
    (truncf .bf16 (broadcastTo S16x128 (shapeCast S1x128 row shapeCasts_S1x128_S1x128) broadcasts_S1x128_S16x128) bitsLt_bf16_f32)

/-- The tile of a slot under 16 rows of scales. -/
def tile (s : ℕ) (t : IVec S128x128 32) (rows : Fin 16 → Vec F S1x128 .f32) : FVec F S256x128 .bf16 :=
  shapeCast S256x128 (concatenate S256x128 0 (List.ofFn fun r : Fin 16 => (⟨S16x128, band (codes s t) (rows r) r⟩ : (s : Shape) × (s.Idx → F .bf16)))
    concatenates_S16x128_S16x128_S16x128_S16x128_S16x128_S16x128_S16x128_S16x128_S16x128_S16x128_S16x128_S16x128_S16x128_S16x128_S16x128_S16x128_S256x128_d0)
    shapeCasts_S256x128_S256x128

/-! ## Where a tile's codes and scales come from -/

/-- A 256 × 256 chunk of the codes block lies in it. -/
theorem inb_chunk (g kp : ℕ) (hg : g < 5) (hk : kp < 3) : ∀ a, (![256 * g, 256 * kp] : Fin 2 → ℕ) a + S256x256.size a ≤ S1280x768.size a := fun a => by
  refine Fin.cases ?_ (fun b => Fin.cases ?_ (fun b => b.elim0) b) a
  · show 256 * g + 256 ≤ 1280; omega
  · show 256 * kp + 256 ≤ 768; omega

/-- A chunk of 256 rows of the scales block lies in it. -/
theorem inb_scales (g : ℕ) (hg : g < 5) : ∀ a, (![256 * g, 0] : Fin 2 → ℕ) a + S256x96.size a ≤ S1280x96.size a := fun a => by
  refine Fin.cases ?_ (fun b => Fin.cases ?_ (fun b => b.elim0) b) a
  · show 256 * g + 256 ≤ 1280; omega
  · show 0 + 96 ≤ 96; omega

/-- A row of 128 transposed scales lies in their buffer. -/
theorem inb_row (b h : ℕ) (r : Fin 16) (hb : b < 6) (hh : h < 2) : ∀ a, (![16 * b + r.val, 128 * h] : Fin 2 → ℕ) a + S1x128.size a ≤ S96x256.size a := fun a => by
  have := r.isLt
  refine Fin.cases ?_ (fun b => Fin.cases ?_ (fun b => b.elim0) b) a
  · show 16 * b + r.val + 1 ≤ 96; omega
  · show 128 * h + 128 ≤ 256; omega

/-- The tile of columns half `nh` and row half `kh`, of the codes chunk `(g, kp)` and the scales chunk `g`. -/
def chunkTile (x2 : Vec F S1280x768 .i8) (x3 : Vec F S1280x96 .fp8e4m3) (g kp kh nh : ℕ) (hg : g < 5) (hkp : kp < 3) (hkh : kh < 2) (hnh : nh < 2) : FVec F S256x128 .bf16 :=
  tile (2 * nh + kh) (k0_pay5 (VecWindow.window x2 ![256 * g, 256 * kp] S256x256.size (inb_chunk g kp hg hkp))) fun r =>
    VecWindow.window (k0_pay4 (VecWindow.window x3 ![256 * g, 0] S256x96.size (inb_scales g hg))) ![16 * (2 * kp + kh) + r.val, 128 * nh] S1x128.size
      (inb_row (2 * kp + kh) nh r (by omega) hnh)

/-- The decoded weight at row `k` and column `n` of a chunk of 1280 columns. -/
def chunkWeight (x2 : Vec F S1280x768 .i8) (x3 : Vec F S1280x96 .fp8e4m3) (k : Fin 1536) (n : Fin 1280) : F .bf16 :=
  chunkTile x2 x3 (n.val / 256) (k.val / 512) (k.val / 256 % 2) (n.val / 128 % 2) (by omega) (by omega) (by omega) (by omega)
    (ValueIdx.ix2 ⟨k.val % 256, by omega⟩ ⟨n.val % 128, by omega⟩)

/-- The number, in the order of the stores, of the tile that holds row `k` and column `n` of a chunk. -/
def tileNo (k n : ℕ) : ℕ := 12 * (n / 256) + 4 * (k / 512) + 2 * (k / 256 % 2) + n / 128 % 2

/-- A list of stores into the weights scratch is the first `n` tiles of the chunk that starts at column `b`: read
    back, the scratch has the decoded weights where those tiles lie and its former contents elsewhere. -/
def Filled (x2 : Vec F S1280x768 .i8) (x3 : Vec F S1280x96 .fp8e4m3) (b : ℕ) (n : ℕ) (L : List (View.Piece (Elt F) S1536x8960 .bf16)) : Prop :=
  ∀ (v : View sig .tc .vmem S1536x8960 .bf16) (f : v.ty.Contents (Elt F)) (y : S1536x8960.Idx),
    v.read (Elt F) (v.writes (Elt F) f L) y
      = if h : b ≤ (y 1).val ∧ (y 1).val < b + 1280 ∧ tileNo (y 0).val ((y 1).val - b) < n then
          chunkWeight x2 x3 (y 0) ⟨(y 1).val - b, by omega⟩
        else v.read (Elt F) f y

/-- No store yet. -/
theorem filled_nil (x2 : Vec F S1280x768 .i8) (x3 : Vec F S1280x96 .fp8e4m3) (b : ℕ) : Filled x2 x3 b 0 [] := fun v f y => by
  rw [dif_neg (by omega)]; rfl

/-- A position inside a tile of a chunk determines the tile. -/
theorem tile_of_pos {r c g kp kh nh : ℕ} (hkh : kh < 2) (hnh : nh < 2)
    (h0 : 256 * (2 * kp + kh) ≤ r) (h0' : r < 256 * (2 * kp + kh) + 256) (h1 : 256 * g + 128 * nh ≤ c) (h1' : c < 256 * g + 128 * nh + 128) :
    c / 256 = g ∧ r / 512 = kp ∧ r / 256 % 2 = kh ∧ c / 128 % 2 = nh := by
  have e1 : c / 128 = 2 * g + nh := by omega
  have e2 : r / 256 = 2 * kp + kh := by omega
  refine ⟨by omega, by omega, ?_, ?_⟩
  · rw [e2]; omega
  · rw [e1]; omega

/-- A position whose tile has a tile's number lies in that tile. -/
theorem pos_of_tileNo {r c g kp kh nh : ℕ} (hr : r < 1536) (hc : c < 1280) (hkp : kp < 3) (hkh : kh < 2) (hnh : nh < 2) (h : tileNo r c = 12 * g + 4 * kp + 2 * kh + nh) :
    (256 * (2 * kp + kh) ≤ r ∧ r < 256 * (2 * kp + kh) + 256) ∧ 256 * g + 128 * nh ≤ c ∧ c < 256 * g + 128 * nh + 128 := by
  have h1 : r / 256 % 2 < 2 := Nat.mod_lt _ (by omega)
  have h2 : c / 128 % 2 < 2 := Nat.mod_lt _ (by omega)
  have h3 : r / 512 < 3 := by omega
  have e1 : c / 256 = g ∧ r / 512 = kp ∧ r / 256 % 2 = kh ∧ c / 128 % 2 = nh := by
    unfold tileNo at h
    generalize r / 256 % 2 = A at *
    generalize c / 128 % 2 = B at *
    generalize r / 512 = C at *
    generalize c / 256 = D at *
    omega
  obtain ⟨a1, a2, a3, a4⟩ := e1
  have b1 : r / 256 = 2 * kp + kh := by omega
  have b2 : c / 128 = 2 * g + nh := by omega
  omega

/-- A position outside a tile is in one of the tiles up to it exactly when it is in one of those before it. -/
theorem next_iff {r q b g kp kh nh : ℕ} (hr : r < 1536) (hkp : kp < 3) (hkh : kh < 2) (hnh : nh < 2)
    (hne : ¬ ((256 * (2 * kp + kh) ≤ r ∧ r < 256 * (2 * kp + kh) + 256) ∧ (b + (256 * g + 128 * nh) ≤ q ∧ q < b + (256 * g + 128 * nh) + 128))) :
    (b ≤ q ∧ q < b + 1280 ∧ tileNo r (q - b) < 12 * g + 4 * kp + 2 * kh + nh) ↔ (b ≤ q ∧ q < b + 1280 ∧ tileNo r (q - b) < 12 * g + 4 * kp + 2 * kh + nh + 1) := by
  refine and_congr_right fun k1 => and_congr_right fun k2 => ⟨fun h => by omega, fun h => ?_⟩
  by_contra hlt
  obtain ⟨k5, k6, k7⟩ := pos_of_tileNo (g := g) hr (c := q - b) (by omega) hkp hkh hnh (by omega)
  exact hne ⟨k5, by omega, by omega⟩

/-- Inside a 256 × 128 window: the two coordinates' bounds. -/
theorem in_window_iff (p q : ℕ) (y : S1536x8960.Idx) :
    (∀ a, (![p, q] : Fin 2 → ℕ) a ≤ (y a).val ∧ (y a).val < (![p, q] : Fin 2 → ℕ) a + S256x128.size a)
      ↔ (p ≤ (y 0).val ∧ (y 0).val < p + 256) ∧ (q ≤ (y 1).val ∧ (y 1).val < q + 128) :=
  Fin.forall_fin_two

/-- The position inside the window of an index of it. -/
theorem unitLocal_window (p q : ℕ) (y : S1536x8960.Idx) (h : ∀ a, (![p, q] : Fin 2 → ℕ) a ≤ (y a).val ∧ (y a).val < (![p, q] : Fin 2 → ℕ) a + S256x128.size a)
    (i : Fin 256) (j : Fin 128) (hi : i.val = (y 0).val - p) (hj : j.val = (y 1).val - q) :
    Rect.unitLocal (s := S1536x8960) (off := ![p, q]) (size := S256x128.size) y h = ValueIdx.ix2 i j :=
  funext fun a => Fin.cases (Fin.ext hi.symm) (fun c => Fin.cases (Fin.ext hj.symm) (fun c => c.elim0) c) a

/-- The tile at a position of its window is the decoded weight there. -/
theorem tile_at (x2 : Vec F S1280x768 .i8) (x3 : Vec F S1280x96 .fp8e4m3) (b g kp kh nh : ℕ) (hg : g < 5) (hkp : kp < 3) (hkh : kh < 2) (hnh : nh < 2) (y : S1536x8960.Idx)
    (h : ∀ a, (![256 * (2 * kp + kh), b + (256 * g + 128 * nh)] : Fin 2 → ℕ) a ≤ (y a).val
      ∧ (y a).val < (![256 * (2 * kp + kh), b + (256 * g + 128 * nh)] : Fin 2 → ℕ) a + S256x128.size a) (e : F .bf16) :
    chunkTile x2 x3 g kp kh nh hg hkp hkh hnh (Rect.unitLocal (s := S1536x8960) (off := ![256 * (2 * kp + kh), b + (256 * g + 128 * nh)]) (size := S256x128.size) y h)
      = if h : b ≤ (y 1).val ∧ (y 1).val < b + 1280 ∧ tileNo (y 0).val ((y 1).val - b) < 12 * g + 4 * kp + 2 * kh + nh + 1 then
          chunkWeight x2 x3 (y 0) ⟨(y 1).val - b, by omega⟩
        else e := by
  obtain ⟨⟨p1, p2⟩, p3, p4⟩ := (in_window_iff _ _ y).mp h
  obtain ⟨c, hc⟩ : ∃ c, c = (y 1).val - b := ⟨_, rfl⟩
  have c1 : 256 * g + 128 * nh ≤ c := by omega
  have c2 : c < 256 * g + 128 * nh + 128 := by omega
  obtain ⟨e1, e2, e3, e4⟩ := tile_of_pos hkh hnh p1 p2 c1 c2
  have en : tileNo (y 0).val c = 12 * g + 4 * kp + 2 * kh + nh := by unfold tileNo; rw [e1, e2, e3, e4]
  have hin : b ≤ (y 1).val ∧ (y 1).val < b + 1280 ∧ tileNo (y 0).val ((y 1).val - b) < 12 * g + 4 * kp + 2 * kh + nh + 1 := by
    rw [← hc, en]
    omega
  rw [dif_pos hin]
  have ec : (⟨(y 1).val - b, by omega⟩ : Fin 1280) = ⟨c, by omega⟩ := Fin.ext hc.symm
  rw [ec]
  rw [unitLocal_window _ _ y h ⟨(y 0).val % 256, by omega⟩ ⟨c % 128, by omega⟩ (by show (y 0).val % 256 = _; omega) (by show c % 128 = _; omega)]
  unfold chunkWeight
  subst e1; subst e2; subst e3; subst e4
  rfl

/-- One more store: the tile of the codes chunk and the scales chunk that the body loads, at its place. -/
theorem filled_step {arg4 : Memref sig .tc .vmem S1280x768 .i8} (harg4 : arg4.IsWhole) {arg5 : Memref sig .tc .vmem S1280x96 .fp8e4m3} (harg5 : arg5.IsWhole)
    (arg8 : Memref sig .tc .vmem S96x256 .f32) {x2 : Vec F S1280x768 .i8} {x3 : Vec F S1280x96 .fp8e4m3} {b : ℕ}
    (g kp kh nh : ℕ) (hg : g < 5) (hkp : kp < 3) (hkh : kh < 2) (hnh : nh < 2) {L : List (View.Piece (Elt F) S1536x8960 .bf16)}
    {L' : List (View.Piece (Elt F) S96x256 .f32)} {off : Fin 2 → ℕ} (inb : ∀ a, off a + S256x128.size a ≤ S1536x8960.size a) {w : Vec F S256x128 .bf16}
    (hL : Filled x2 x3 b (12 * g + 4 * kp + 2 * kh + nh) L) (hoff : off = ![256 * (2 * kp + kh), b + (256 * g + 128 * nh)])
    (hw : w = tile (2 * nh + kh) (k0_pay5 (View.readAt (Elt F) arg4.view (Rect.unit (s := S1280x768) ![256 * g, 256 * kp] S256x256.size (inb_chunk g kp hg hkp)).toLoadRect (harg4.unread x2)))
      fun r => arg8.view.readCov (⟨Rect.unit ![0, 0] S96x256.size inb_S96x256_S96x256_0_0,
          k0_pay4 (View.readAt (Elt F) arg5.view (Rect.unit (s := S1280x96) ![256 * g, 0] S256x96.size (inb_scales g hg)).toLoadRect (harg5.unread x3))⟩ :: L')
        (Rect.unit (s := S96x256) ![16 * (2 * kp + kh) + r.val, 128 * nh] S1x128.size (inb_row (2 * kp + kh) nh r (by omega) hnh)).toLoadRect) :
    Filled x2 x3 b (12 * g + 4 * kp + 2 * kh + nh + 1) (⟨Rect.unit off S256x128.size inb, w⟩ :: L) := by
  have ew : w = chunkTile x2 x3 g kp kh nh hg hkp hkh hnh := by
    rw [hw]
    unfold chunkTile
    congr 1
    · rw [View.readAt_unit _ _ _ rfl (inb_chunk g kp hg hkp), harg4.read_unread]
    · funext r
      show View.readAt (Elt F) arg8.view _ _ = _
      rw [View.readAt_unit _ _ _ rfl (inb_row (2 * kp + kh) nh r (by omega) hnh), View.read_writes_full,
        View.readAt_unit _ _ _ rfl (inb_scales g hg), harg5.read_unread]
  intro v f y
  have hy0 : (y 0).val < 1536 := (y 0).isLt
  rw [View.read_writes_cons_unit v f inb w L y hoff]
  by_cases h : ∀ a, (![256 * (2 * kp + kh), b + (256 * g + 128 * nh)] : Fin 2 → ℕ) a ≤ (y a).val
      ∧ (y a).val < (![256 * (2 * kp + kh), b + (256 * g + 128 * nh)] : Fin 2 → ℕ) a + S256x128.size a
  · rw [dif_pos h, ew]
    exact tile_at x2 x3 b g kp kh nh hg hkp hkh hnh y h _
  · rw [dif_neg h, hL v f y]
    have hne := mt (in_window_iff _ _ y).mpr h
    have hn := next_iff (b := b) (g := g) hy0 hkp hkh hnh hne
    by_cases hc : b ≤ (y 1).val ∧ (y 1).val < b + 1280 ∧ tileNo (y 0).val ((y 1).val - b) < 12 * g + 4 * kp + 2 * kh + nh
    · rw [dif_pos hc, dif_pos (hn.mp hc)]
    · rw [dif_neg hc, dif_neg (mt hn.mpr hc)]

end Cert.KernelIdeal

end
-- ==== Proof.Chain.lean ====
/-
  The sixty stores of the decode, in their order: each writes the tile of its place, so that together they leave the
  decoded weights of the chunk.
-/
module

public import proofs.«01_k».proof.Proof.BodyFirst
public import proofs.«01_k».proof.Proof.Tile

@[expose] public section

set_option maxRecDepth 16384

noncomputable section

namespace Cert.KernelIdeal

open Cert.KernelIdeal.Gen
open Idealize.ShloMosaic Idealize.ShloMosaic.TcCoe

variable {F : FTy → Type} [FloatOps F]

/-- The column a store starts at: the chunk's first column and the tile's place in the chunk. -/
theorem col_eq (i : grid0.Coords) (a b : ℕ) (ha : a ≤ 1024) (hb : b ≤ 128) :
    (Scalar.indexCast (Scalar.addi (Scalar.addi (Scalar.muli (BitVec.ofNat 32 (i 1).val) 1280#32) (BitVec.ofNat 32 a)) (BitVec.ofNat 32 b))).toNat
      = 1280 * (i 1).val + (a + b) := by
  have hi : (i 1).val < 7 := (i 1).isLt
  generalize (i 1).val = j at hi
  show (((BitVec.ofNat 32 j * 1280#32) + BitVec.ofNat 32 a) + BitVec.ofNat 32 b).toNat = _
  simp only [BitVec.toNat_add, BitVec.toNat_mul, BitVec.toNat_ofNat]
  omega

/-- The offsets of a store, as the body computes them: rows `256 · kb`, columns from the chunk's first column on. -/
def storeOff (i : grid0.Coords) (kb g nh : ℕ) : Fin 2 → ℕ :=
  match kb with
  | 0 => k0_off1 i (BitVec.ofNat 32 (256 * g)) (BitVec.ofNat 32 (128 * nh))
  | 1 => k0_off2 i (BitVec.ofNat 32 (256 * g)) (BitVec.ofNat 32 (128 * nh))
  | 2 => k0_off3 i (BitVec.ofNat 32 (256 * g)) (BitVec.ofNat 32 (128 * nh))
  | 3 => k0_off4 i (BitVec.ofNat 32 (256 * g)) (BitVec.ofNat 32 (128 * nh))
  | 4 => k0_off5 i (BitVec.ofNat 32 (256 * g)) (BitVec.ofNat 32 (128 * nh))
  | _ => k0_off6 i (BitVec.ofNat 32 (256 * g)) (BitVec.ofNat 32 (128 * nh))

/-- The offsets of a store, in closed form. -/
theorem storeOff_eq (i : grid0.Coords) (kb g nh : ℕ) (hkb : kb < 6) (hg : g < 5) (hnh : nh < 2) :
    storeOff i kb g nh = ![256 * kb, 1280 * (i 1).val + (256 * g + 128 * nh)] := by
  rw [← col_eq i (256 * g) (128 * nh) (by omega) (by omega)]
  interval_cases kb <;> rfl

/-- A store's window lies in the weights scratch. -/
theorem storeOff_inb (i : grid0.Coords) (kb g nh : ℕ) (hkb : kb < 6) (hg : g < 5) (hnh : nh < 2) :
    ∀ a, storeOff i kb g nh a + S256x128.size a ≤ S1536x8960.size a := by
  have hi : (i 1).val < 7 := (i 1).isLt
  rw [storeOff_eq i kb g nh hkb hg hnh]
  refine Fin.forall_fin_two.mpr ⟨?_, ?_⟩
  · show 256 * kb + 256 ≤ 1536; omega
  · show 1280 * (i 1).val + (256 * g + 128 * nh) + 128 ≤ 8960; omega

/-- The stores into the buffer of transposed scales, up to the chunk of 256 columns before `g`, the last first. -/
def scaleStores (arg5 : Memref sig .tc .vmem S1280x96 .fp8e4m3) (harg5 : arg5.IsWhole) (x3 : Vec F S1280x96 .fp8e4m3) : ℕ → List (View.Piece (Elt F) S96x256 .f32)
  | 0 => []
  | g + 1 => ⟨Rect.unit ![0, 0] S96x256.size inb_S96x256_S96x256_0_0,
      k0_pay4 (View.readAt (Elt F) arg5.view (Rect.unit (s := S1280x96) ![256 * (g % 5), 0] S256x96.size (inb_scales (g % 5) (Nat.mod_lt _ (by decide)))).toLoadRect (harg5.unread x3))⟩
      :: scaleStores arg5 harg5 x3 g

/-- The last of them holds the chunk `g` of the scales. -/
theorem scaleStores_succ (arg5 : Memref sig .tc .vmem S1280x96 .fp8e4m3) (harg5 : arg5.IsWhole) (x3 : Vec F S1280x96 .fp8e4m3) (g : ℕ) (hg : g < 5) :
    scaleStores arg5 harg5 x3 (g + 1) = ⟨Rect.unit ![0, 0] S96x256.size inb_S96x256_S96x256_0_0,
      k0_pay4 (View.readAt (Elt F) arg5.view (Rect.unit (s := S1280x96) ![256 * g, 0] S256x96.size (inb_scales g hg)).toLoadRect (harg5.unread x3))⟩
      :: scaleStores arg5 harg5 x3 g := by
  have key : ∀ g' (h' : g' < 5), g' = g →
      View.readAt (Elt F) arg5.view (Rect.unit (s := S1280x96) ![256 * g', 0] S256x96.size (inb_scales g' h')).toLoadRect (harg5.unread x3)
        = View.readAt (Elt F) arg5.view (Rect.unit (s := S1280x96) ![256 * g, 0] S256x96.size (inb_scales g hg)).toLoadRect (harg5.unread x3) := by
    rintro g' h' rfl; rfl
  show _ :: _ = _
  rw [key (g % 5) (Nat.mod_lt _ (by decide)) (Nat.mod_eq_of_lt hg)]

/-- The first `n` stores into the weights scratch, the last first. -/
def tileStores (i : grid0.Coords) (arg4 : Memref sig .tc .vmem S1280x768 .i8) (harg4 : arg4.IsWhole) (arg5 : Memref sig .tc .vmem S1280x96 .fp8e4m3) (harg5 : arg5.IsWhole)
    (arg8 : Memref sig .tc .vmem S96x256 .f32) (x2 : Vec F S1280x768 .i8) (x3 : Vec F S1280x96 .fp8e4m3) : ℕ → List (View.Piece (Elt F) S1536x8960 .bf16)
  | 0 => []
  | n + 1 =>
    ⟨Rect.unit (storeOff i (2 * (n / 4 % 3) + n / 2 % 2) (n / 12 % 5) (n % 2)) S256x128.size
        (storeOff_inb i (2 * (n / 4 % 3) + n / 2 % 2) (n / 12 % 5) (n % 2) (by omega) (Nat.mod_lt _ (by decide)) (Nat.mod_lt _ (by decide))),
      tile (2 * (n % 2) + n / 2 % 2)
        (k0_pay5 (View.readAt (Elt F) arg4.view (Rect.unit (s := S1280x768) ![256 * (n / 12 % 5), 256 * (n / 4 % 3)] S256x256.size
          (inb_chunk _ _ (Nat.mod_lt _ (by decide)) (Nat.mod_lt _ (by decide)))).toLoadRect (harg4.unread x2)))
        fun r => arg8.view.readCov (scaleStores arg5 harg5 x3 (n / 12 % 5 + 1))
          (Rect.unit (s := S96x256) ![16 * (2 * (n / 4 % 3) + n / 2 % 2) + r.val, 128 * (n % 2)] S1x128.size
            (inb_row _ _ r (by omega) (Nat.mod_lt _ (by decide)))).toLoadRect⟩
      :: tileStores i arg4 harg4 arg5 harg5 arg8 x2 x3 n

/-- What the run stores into the weights scratch are those sixty stores. -/
theorem stores_eq (c : Dev nD) (i : grid0.Coords) (arg4 : Memref sig .tc .vmem S1280x768 .i8) (harg4 : arg4.IsWhole) (arg5 : Memref sig .tc .vmem S1280x96 .fp8e4m3) (harg5 : arg5.IsWhole)
    (arg8 : Memref sig .tc .vmem S96x256 .f32) (hc0 : cond0_0 i) (x2 : Vec F S1280x768 .i8) (x3 : Vec F S1280x96 .fp8e4m3) :
    run_first.sl.HS0_60 c i arg4 harg4 arg5 harg5 arg8 hc0 x2 x3 = tileStores i arg4 harg4 arg5 harg5 arg8 x2 x3 60 := rfl

/-- The first `n` stores fill the first `n` tiles. -/
theorem filled_stores (i : grid0.Coords) (arg4 : Memref sig .tc .vmem S1280x768 .i8) (harg4 : arg4.IsWhole) (arg5 : Memref sig .tc .vmem S1280x96 .fp8e4m3) (harg5 : arg5.IsWhole)
    (arg8 : Memref sig .tc .vmem S96x256 .f32) (x2 : Vec F S1280x768 .i8) (x3 : Vec F S1280x96 .fp8e4m3) :
    ∀ n, n ≤ 60 → Filled x2 x3 (1280 * (i 1).val) n (tileStores i arg4 harg4 arg5 harg5 arg8 x2 x3 n)
  | 0, _ => filled_nil x2 x3 _
  | n + 1, hn => by
    have en : n = 12 * (n / 12 % 5) + 4 * (n / 4 % 3) + 2 * (n / 2 % 2) + n % 2 := by omega
    have ih := filled_stores i arg4 harg4 arg5 harg5 arg8 x2 x3 n (by omega)
    have ih' : Filled x2 x3 (1280 * (i 1).val) (12 * (n / 12 % 5) + 4 * (n / 4 % 3) + 2 * (n / 2 % 2) + n % 2) (tileStores i arg4 harg4 arg5 harg5 arg8 x2 x3 n) := by rw [← en]; exact ih
    have hs := filled_step harg4 harg5 arg8 (n / 12 % 5) (n / 4 % 3) (n / 2 % 2) (n % 2) (by omega) (by omega) (by omega) (by omega)
      (L' := scaleStores arg5 harg5 x3 (n / 12 % 5)) (storeOff_inb i (2 * (n / 4 % 3) + n / 2 % 2) (n / 12 % 5) (n % 2) (by omega) (by omega) (by omega))
      ih' (storeOff_eq i _ _ _ (by omega) (by omega) (by omega)) rfl
    rw [← en, ← scaleStores_succ arg5 harg5 x3 (n / 12 % 5) (by omega)] at hs
    exact hs

/-- What the run stores into the weights scratch: read back, the scratch has the decoded weights in the columns of the
    chunk and its former contents elsewhere. -/
theorem filled_run (c : Dev nD) (i : grid0.Coords) (arg4 : Memref sig .tc .vmem S1280x768 .i8) (harg4 : arg4.IsWhole) (arg5 : Memref sig .tc .vmem S1280x96 .fp8e4m3) (harg5 : arg5.IsWhole)
    (arg8 : Memref sig .tc .vmem S96x256 .f32) (hc0 : cond0_0 i) (x2 : Vec F S1280x768 .i8) (x3 : Vec F S1280x96 .fp8e4m3) :
    Filled x2 x3 (1280 * (i 1).val) 60 (run_first.sl.HS0_60 c i arg4 harg4 arg5 harg5 arg8 hc0 x2 x3) := by
  rw [stores_eq]
  exact filled_stores i arg4 harg4 arg5 harg5 arg8 x2 x3 60 le_rfl

end Cert.KernelIdeal

end
-- ==== Proof.Run.lean ====
/-
  The run of the idealized kernel. The weights scratch is carried from point to point: after the first `t` points it holds
  the decoded weights in the columns of the first `t` chunks. Every point leaves in its output buffer the block of `x` times
  the decoded columns of its chunk. From this the launch, the frame, and the contents of the output array.
-/
module

public import proofs.«01_k».proof.Proof.BodyLater
public import proofs.«01_k».proof.Proof.BodyFirst
public import proofs.«01_k».proof.Proof.Chain
public import Idealize.ShloMosaic.Lib.Claim

@[expose] public section

set_option maxRecDepth 16384

noncomputable section

namespace Cert.KernelIdeal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The columns of a point -/

/-- The body's column offset into the weights scratch: the first column of the chunk. -/
theorem off7_1 (i : grid0.Coords) : k0_off7 i 1 = 1280 * (i 1).val := by
  have hi : (i 1).val < 7 := (i 1).isLt
  show (BitVec.ofNat 32 (i 1).val * 1280#32).toNat = _
  generalize (i 1).val = j at hi
  simp only [BitVec.toNat_mul, BitVec.toNat_ofNat]
  omega

/-- Its row offset: all rows. -/
theorem off7_0 (i : grid0.Coords) : k0_off7 i 0 = 0 := rfl

/-- The output block depends on the weights scratch only through the columns of the point's chunk. -/
theorem outBlock_congr (i : grid0.Coords) (x0 : Vec F S1 .f32) (x1 : Vec F S1024x1536 .bf16) (w w' : Vec F S1536x8960 .bf16)
    (h : ∀ y : S1536x8960.Idx, 1280 * (i 1).val ≤ (y 1).val → (y 1).val < 1280 * (i 1).val + 1280 → w y = w' y) :
    outBlock i x0 x1 w = outBlock i x0 x1 w' := by
  unfold outBlock
  congr 1
  funext z
  have hz : (z 1).val < 1280 := (z 1).isLt
  refine h _ ?_ ?_
  · exact (off7_1 i).symm.le.trans (Nat.le_add_right _ _)
  · exact (congrArg (· + 1 * (z 1).val) (off7_1 i)).trans_lt (by show 1280 * (i 1).val + 1 * (z 1).val < _; omega)

/-- Point `t` works on the columns of chunk `t % 7`. -/
theorem coord1 (t : Fin cfg0.N) : (grid0.coords t 1).val = t.val % 7 := by
  have e1 : (grid0.coords t 1).val = t.val / 1 % 7 := Pipeline.Grid.coords_val t 1 (by decide) rfl
  rw [e1, Nat.div_one]

/-- and on the rows of block `t / 7`. -/
theorem coord0 (t : Fin cfg0.N) : (grid0.coords t 0).val = t.val / 7 := by
  have ht : t.val < 224 := Nat.lt_of_lt_of_eq t.isLt N_0
  have e0 : (grid0.coords t 0).val = t.val / 7 % 32 := Pipeline.Grid.coords_val t 0 (by decide) rfl
  rw [e0]; omega

variable (m : (ℓ : Loc nD τ sig) → Buf (Elt F) ℓ) (ρ : Dev nD → PrngReg)

/-- The point that decodes column `n`. -/
def pointOf (n : Fin 8960) : Fin cfg0.N := ⟨n.val / 1280, by have : cfg0.N = 224 := N_0; have := n.isLt; omega⟩

/-- The decoded weights, all chunks together. -/
def decoded (c : Dev nD) : Vec F S1536x8960 .bf16 := fun y =>
  chunkWeight (iblk m c 2 (pointOf (y 1))) (iblk m c 3 (pointOf (y 1))) (y 0) ⟨(y 1).val % 1280, Nat.mod_lt _ (by decide)⟩

/-- The weights scratch holds the decoded weights of the first `n` chunks. -/
def Decoded (c : Dev nD) (n : ℕ) (w : Vec F S1536x8960 .bf16) : Prop :=
  ∀ y : S1536x8960.Idx, (y 1).val < 1280 * n → w y = decoded m c y

/-- After the stores of chunk `j`, the first `j + 1` chunks are decoded if the first `j` were, -/
theorem decoded_step (c : Dev nD) (t : Fin cfg0.N) (ht : t.val < 7) (L : List (View.Piece (Elt F) S1536x8960 .bf16))
    (hL : Filled (iblk m c 2 t) (iblk m c 3 t) (1280 * (grid0.coords t 1).val) 60 L)
    (v : View sig .tc .vmem S1536x8960 .bf16) (f : v.ty.Contents (Elt F)) :
    (∀ y : S1536x8960.Idx, 1280 * t.val ≤ (y 1).val → (y 1).val < 1280 * t.val + 1280 → v.read (Elt F) (v.writes (Elt F) f L) y = decoded m c y)
    ∧ (Decoded m c t.val (v.read (Elt F) f) → Decoded m c (t.val + 1) (v.read (Elt F) (v.writes (Elt F) f L))) := by
  have hc : (grid0.coords t 1).val = t.val := by rw [coord1]; omega
  rw [hc] at hL
  have key : ∀ y : S1536x8960.Idx, 1280 * t.val ≤ (y 1).val → (y 1).val < 1280 * t.val + 1280 → v.read (Elt F) (v.writes (Elt F) f L) y = decoded m c y := by
    intro y h1 h2
    have hy0 : (y 0).val < 1536 := (y 0).isLt
    have hno : tileNo (y 0).val ((y 1).val - 1280 * t.val) < 60 := by unfold tileNo; generalize (y 0).val = a at hy0; generalize (y 1).val = b at h1 h2; omega
    rw [hL v f y, dif_pos ⟨h1, h2, hno⟩]
    have hp : pointOf (y 1) = t := Fin.ext (by show (y 1).val / 1280 = t.val; generalize (y 1).val = b at h1 h2; omega)
    unfold decoded
    rw [hp]
    congr 1
    refine Fin.ext ?_
    show (y 1).val - 1280 * t.val = (y 1).val % 1280
    generalize (y 1).val = b at h1 h2; omega
  refine ⟨key, fun hd y hy => ?_⟩
  by_cases h1 : 1280 * t.val ≤ (y 1).val
  · exact key y h1 (by omega)
  · rw [hL v f y, dif_neg (fun h => h1 h.1)]
    exact hd y (by omega)

/-! ## The pipeline's proof data -/

/-- What the pipeline on core `c` holds: the arrays as the region finds them; after the body each input's buffer at its
    block and the output's at the block of `x` times the decoded columns; between points the weights scratch with the
    chunks decoded so far. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlock (grid0.coords t) (iblk m c 0 t) (iblk m c 1 t) (decoded m c)
  Φ t := iprop(iprop((∃ w, ⌜Decoded m c t.val w⌝ ∗ owns (c : Thread nD τ) scM0_0 fullShare w) ∗ (∃ d, owns (c : Thread nD τ) scM0_1 fullShare d)) ∗ (∃ r, prngReg c r))
  q _ := fullShare
  owed _ := 0

theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = outBlock (grid0.coords t) (iblk m c 0 t) (iblk m c 1 t) (decoded m c) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 1600000 in
/-- The body at any point: it decodes its chunk at the first seven points and nothing later, and its output block is the
    block of `x` times the decoded columns of its chunk. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4]
  rw [show (dats m 0 c).Φ t.castSucc = iprop(iprop((∃ w, ⌜Decoded m c t.val w⌝ ∗ owns (c : Thread nD τ) scM0_0 fullShare w) ∗ (∃ d, owns (c : Thread nD τ) scM0_1 fullShare d)) ∗ (∃ r, prngReg c r)) from rfl,
    show (dats m 0 c).Φ t.succ = iprop(iprop((∃ w, ⌜Decoded m c (t.val + 1) w⌝ ∗ owns (c : Thread nD τ) scM0_0 fullShare w) ∗ (∃ d, owns (c : Thread nD τ) scM0_1 fullShare d)) ∗ (∃ r, prngReg c r)) from rfl]
  have hN : t.val < 224 := lt_of_lt_of_eq t.isLt (show cfg0.N = 224 from N_0)
  by_cases h0 : t.val < 7
  · iintro ⟨⟨⟨⟨%w, %hw, HS0⟩, HS1⟩, Hg⟩, Ho, ⟨%d0, H0⟩, ⟨%d1, H1⟩, ⟨%d2, H2⟩, ⟨%d3, H3⟩, ⟨%d4, H4⟩⟩
    iapply ((run_first c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t) (iblk m c 3 t) w).2 Set.univ _)
    have hL : Filled (iblk m c 2 t) (iblk m c 3 t) (1280 * (grid0.coords t 1).val) 60 (run_first c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t) (iblk m c 3 t) w).1 :=
      filled_run c (grid0.coords t) (ms0_2 t) (hs0_2 t) (ms0_3 t) (hs0_3 t) scM0_1 ((hcond0_0 t).mpr h0) (iblk m c 2 t) (iblk m c 3 t)
    generalize (run_first c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t) (iblk m c 3 t) w).1 = L at hL
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    rw [outBlock_congr (grid0.coords t) (iblk m c 0 t) (iblk m c 1 t) (scM0_0.view.read (Elt F) (scM0_0.view.writes (Elt F) scM0_0.view.junk L)) (decoded m c)
      (by rw [coord1, Nat.mod_eq_of_lt h0]; exact (decoded_step m c t h0 L hL _ _).1)]
    iintro ⟨H0, H1, H2, H3, H4, HS0, HS1⟩
    isplitl [HS0 HS1 Hg]
    · isplitl [HS0 HS1]
      · isplitl [HS0]
        · iexists _; isplitr; swap; · iexact HS0
          ipureintro
          exact (decoded_step m c t h0 L hL _ _).2 (by rw [(Memref.isWhole_whole cc0_scratch0).read_unread]; exact hw)
        iexact HS1
      iexact Hg
    isplitl [Ho]; · iexact Ho
    isplitl [H0]; · iexact H0
    isplitl [H1]; · iexact H1
    isplitl [H2]; · iexact H2
    isplitl [H3]; · iexact H3
    iexact H4
  · iintro ⟨⟨⟨⟨%w, %hw, HS0⟩, HS1⟩, Hg⟩, Ho, ⟨%d0, H0⟩, ⟨%d1, H1⟩, ⟨%d2, H2⟩, ⟨%d3, H3⟩, ⟨%d4, H4⟩⟩
    have hall : ∀ y : S1536x8960.Idx, w y = decoded m c y := fun y => hw y (by have : (y 1).val < 8960 := (y 1).isLt; omega)
    obtain rfl : w = decoded m c := funext hall
    iapply ((run_later c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (iblk m c 0 t) (iblk m c 1 t) (iblk m c 2 t) (iblk m c 3 t) (decoded m c)) Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    iintro ⟨H0, H1, H2, H3, H4, HS0, HS1⟩
    isplitl [HS0 HS1 Hg]
    · isplitl [HS0 HS1]
      · isplitl [HS0]
        · iexists _; isplitr; swap; · iexact HS0
          ipureintro
          exact fun y _ => rfl
        iexact HS1
      iexact Hg
    isplitl [Ho]; · iexact Ho
    isplitl [H0]; · iexact H0
    isplitl [H1]; · iexact H1
    isplitl [H2]; · iexact H2
    isplitl [H3]; · iexact H3
    iexact H4

/-- The body table's row at point `t`'s slots is the body at that point. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

/-- Before the first point nothing is decoded: the class invariant yields the carried one, -/
theorem phi_in (c : Dev nD) : Pipeline.ΦA spec0 c ⊢ (dats m 0 c).Φ 0 := by
  rw [PhiA0_eq]
  rw [show (dats m 0 c).Φ 0 = iprop(iprop((∃ w, ⌜Decoded m c 0 w⌝ ∗ owns (c : Thread nD τ) scM0_0 fullShare w) ∗ (∃ d, owns (c : Thread nD τ) scM0_1 fullShare d)) ∗ (∃ r, prngReg c r)) from rfl]
  iintro ⟨⟨⟨%w, HS0⟩, HS1⟩, Hg⟩
  isplitl [HS0 HS1]
  · isplitl [HS0]
    · iexists w; isplitr
      · ipureintro; exact fun y hy => absurd hy (by omega)
      iexact HS0
    iexact HS1
  iexact Hg

/-- and after the last point the scratch is forgotten. -/
theorem phi_out (c : Dev nD) : (dats m 0 c).Φ (Fin.last cfg0.N) ⊢ Pipeline.ΦA spec0 c := by
  rw [PhiA0_eq]
  rw [show (dats m 0 c).Φ (Fin.last cfg0.N) = iprop(iprop((∃ w, ⌜Decoded m c (Fin.last cfg0.N).val w⌝ ∗ owns (c : Thread nD τ) scM0_0 fullShare w) ∗ (∃ d, owns (c : Thread nD τ) scM0_1 fullShare d)) ∗ (∃ r, prngReg c r)) from rfl]
  iintro ⟨⟨⟨%w, %hw, HS0⟩, HS1⟩, Hg⟩
  isplitl [HS0 HS1]
  · isplitl [HS0]
    · iexists w; iexact HS0
    iexact HS1
  iexact Hg

set_option backward.isDefEq.respectTransparency.types false in
/-- The launch: every final state has the pipeline's arrays at what the points leave in them, every other unscoped buffer
    unchanged, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := phi_in m) (hout := phi_out m)

/-- The launch without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: the argument arrays end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal

end
-- ==== Proof.KernelFrame.Setup.lean ====
/-
  The grid of the kernel and the buffers of its body: when the body decodes weights (the first seven points),
  the staging buffer of each window at a point, the two scratch buffers, and the class invariant written with them.
-/
module

public import proofs.«01_k».proof.Proof.Gen.Kernel.Frame
public import proofs.«01_k».proof.Proof.Gen.Kernel.Skeleton

@[expose] public section

set_option maxRecDepth 16384

noncomputable section

namespace Cert.Kernel

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the points before point 7 — by arithmetic of the point. -/
theorem hcond0_0 : ∀ t : Fin cfg0.N, cond0_0 (grid0.coords t) ↔ t.val < 7 :=
  (fun t => by
    have ht : t.val < 224 := Nat.lt_of_lt_of_eq t.isLt N_0
    have e0 : (grid0.coords t 0).val = t.val / 7 % 32 := Pipeline.Grid.coords_val t 0 (by decide) rfl
    have e1 : (grid0.coords t 1).val = t.val / 1 % 7 := Pipeline.Grid.coords_val t 1 (by decide) rfl
    simp only [cond0_0, k0_cond1, e0, e1]
    word_cmp
   : ∀ t : Fin grid0.N, cond0_0 (grid0.coords t) ↔ t.val < 7)

/-! ## The kernel body on any staging memrefs: a subtype the run finds -/

/-- Each window's current staging memref at point `t`, spelled as the pipeline passes it (`bodyAt0`), and its wholeness. -/
abbrev ms0_0 (t : Fin cfg0.N) : Memref sig .tc .smem S1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1536 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1280x768 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1280x96 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1280 .bf16 := win0_4.stage (cfg0.slots t 4)
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S1536x8960 .bf16 := Memref.whole cc0_scratch0
abbrev scM0_1 : Memref sig .tc .vmem S96x256 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel

end
-- ==== Proof.KernelFrame.BodyLater.lean ====
/-
  The body at a point that decodes nothing: the weights scratch stays as it is and the output block is the product.
-/
module

public import proofs.«01_k».proof.Proof.KernelFrame.Setup
public import Idealize.ShloMosaic.Lib.VecWindow

@[expose] public section

set_option maxRecDepth 16384

noncomputable section

namespace Cert.Kernel

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The output block of the body at grid coordinates `i`: the block of `x` times the columns of the weights scratch that
    belong to the point, times the global scale. -/
def outBlock (i : grid0.Coords) (x0 : Vec F S1 .f32) (x1 : Vec F S1024x1536 .bf16) (w : Vec F S1536x8960 .bf16) : Vec F S1024x1280 .bf16 :=
  k0_pay3 x1 (VecWindow.window w (k0_off7 i) S1536x1280.size (k0_off7_inb i)) (x0 fun a => ⟨0, (by decide : ∀ a, 0 < S1.size a) a⟩)

set_option maxHeartbeats 1000000 in
/-- The body's triple when it decodes nothing: the inputs and the weights scratch are handed back unchanged, the output
    buffer holds the output block. -/
theorem run_later (c : Dev nD) (i : grid0.Coords) (arg2 : Memref sig .tc .smem S1 .f32) (harg2 : arg2.IsWhole) (arg3 : Memref sig .tc .vmem S1024x1536 .bf16) (harg3 : arg3.IsWhole) (arg4 : Memref sig .tc .vmem S1280x768 .i8) (harg4 : arg4.IsWhole) (arg5 : Memref sig .tc .vmem S1280x96 .fp8e4m3) (harg5 : arg5.IsWhole) (arg6 : Memref sig .tc .vmem S1024x1280 .bf16) (harg6 : arg6.IsWhole) (arg7 : Memref sig .tc .vmem S1536x8960 .bf16) (harg7 : arg7.IsWhole) (arg8 : Memref sig .tc .vmem S96x256 .f32) (harg8 : arg8.IsWhole) (hc0 : ¬cond0_0 i)
    (x0 : Vec F S1 .f32) (x1 : Vec F S1024x1536 .bf16) (x2 : Vec F S1280x768 .i8) (x3 : Vec F S1280x96 .fp8e4m3) (w : Vec F S1536x8960 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare w ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (outBlock i x0 x1 w) ∗ owns (c : Thread nD τ) arg7 fullShare w ∗ (∃ d, owns (c : Thread nD τ) arg8 fullShare d)) -∗ K ⟨⟩))
          ⊢ wp frame (wpE (defs₀ (F := F)) Variants.none c none) E (cc0__body i arg2 harg2 arg3 harg3 arg4 harg4 arg5 harg5 arg6 harg6 arg7 harg7 arg8 harg8) K := by
    intro E K
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%ds1, %fs1, -, HS1⟩, Hk⟩
    obtain rfl := harg2.eq_unread hf0; obtain rfl := harg3.eq_unread hf1; obtain rfl := harg4.eq_unread hf2; obtain rfl := harg5.eq_unread hf3
    obtain rfl := harg7.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      rw [View.read_writes_full, View.readAt_full, View.readAt_unit _ _ _ rfl (k0_off7_inb i), hf1, hfs0]
      unfold run_later.sl.r
      rw [View.readAt_full, hf0]
      rfl
    isplitl [HS0]
    · iexists _; isplitr; · ipureintro; exact harg7.read_unread _
      iexact HS0
    iexists _, _; isplitr; swap; · iexact HS1
    ipureintro; rfl

end Cert.Kernel

end
-- ==== Proof.KernelFrame.BodyFirst.lean ====
/-
  The body at a point that decodes its chunk of the weights: what the run leaves in the weights scratch (found by the run),
  and the output block, the product with that scratch.
-/
module

public import proofs.«01_k».proof.Proof.KernelFrame.BodyLater
public import Idealize.ShloMosaic.Lib.VecWindow

@[expose] public section

set_option maxRecDepth 16384

noncomputable section

namespace Cert.Kernel

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 6900000 in
/-- The body's triple when it decodes: the inputs are handed back unchanged, the weights scratch holds what the run finds,
    and the output buffer holds the output block over that scratch. -/
def run_first (c : Dev nD) (i : grid0.Coords) (arg2 : Memref sig .tc .smem S1 .f32) (harg2 : arg2.IsWhole) (arg3 : Memref sig .tc .vmem S1024x1536 .bf16) (harg3 : arg3.IsWhole) (arg4 : Memref sig .tc .vmem S1280x768 .i8) (harg4 : arg4.IsWhole) (arg5 : Memref sig .tc .vmem S1280x96 .fp8e4m3) (harg5 : arg5.IsWhole) (arg6 : Memref sig .tc .vmem S1024x1280 .bf16) (harg6 : arg6.IsWhole) (arg7 : Memref sig .tc .vmem S1536x8960 .bf16) (harg7 : arg7.IsWhole) (arg8 : Memref sig .tc .vmem S96x256 .f32) (harg8 : arg8.IsWhole) (hc0 : cond0_0 i)
    (x0 : Vec F S1 .f32) (x1 : Vec F S1024x1536 .bf16) (x2 : Vec F S1280x768 .i8) (x3 : Vec F S1280x96 .fp8e4m3) (w : Vec F S1536x8960 .bf16) :
      { L : List (View.Piece (Elt F) S1536x8960 .bf16) // ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare w ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (outBlock i x0 x1 (arg7.view.read (Elt F) (arg7.view.writes (Elt F) arg7.view.junk L))) ∗ owns (c : Thread nD τ) arg7 fullShare (arg7.view.read (Elt F) (arg7.view.writes (Elt F) (harg7.unread w) L)) ∗ (∃ d, owns (c : Thread nD τ) arg8 fullShare d)) -∗ K ⟨⟩))
          ⊢ wp frame (wpE (defs₀ (F := F)) Variants.none c none) E (cc0__body i arg2 harg2 arg3 harg3 arg4 harg4 arg5 harg5 arg6 harg6 arg7 harg7 arg8 harg8) K } := by
    refine ⟨?_, fun E K => ?run⟩
    case run =>
    simp only [cc0__body_eq_skeleton]; unfold cc0__body_skel
    simp only [k0_part174_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part175_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part176_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%ds1, %fs1, -, HS1⟩, Hk⟩
    obtain rfl := harg2.eq_unread hf0; obtain rfl := harg3.eq_unread hf1; obtain rfl := harg4.eq_unread hf2; obtain rfl := harg5.eq_unread hf3
    obtain rfl := harg7.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; rotate_left
    isplitl [HS0]
    · iexists _; isplitr; swap; · iexact HS0
      ipureintro; rfl
    · iexists _, _; isplitr; swap; · iexact HS1
      ipureintro; rfl
    · iexists _; isplitr; swap; · iexact H4
      ipureintro
      rw [View.read_writes_full, View.readAt_full, hf1]
      unfold run_first.sl.v8
      unfold run_first.sl.r_958
      rw [View.readAt_full, hf0]
      rfl

end Cert.Kernel

end
-- ==== Proof.KernelFrame.Tile.lean ====
/-
  The tile one store of the decode writes: 256 rows of the weights by 128 columns. Its codes are read from a slot of the
  128 × 128 words, each band of 16 rows is multiplied by its row of scales, and the 16 bands are stacked. The weights
  scratch after the first `n` tiles of a chunk are stored, and one more store.
-/
module

public import proofs.«01_k».proof.Proof.KernelFrame.Setup
public import Idealize.ShloMosaic.Lib.VecWindow
public import Idealize.ShloMosaic.Lib.ValueIdx

@[expose] public section

set_option maxRecDepth 16384

noncomputable section

namespace Cert.Kernel

open Cert.Kernel.Gen
open Idealize.ShloMosaic Idealize.ShloMosaic.TcCoe

variable {F : FTy → Type} [FloatOps F]

/-- The words of a slot, moved so that the magnitude bits of two codes stand under the mask. -/
def magShift (s : ℕ) (t : IVec S128x128 32) : IVec S128x128 32 :=
  match s with
  | 0 => shli t (broadcast S128x128 6#32)
  | 1 => shli t (broadcast S128x128 2#32)
  | 2 => shrui t (broadcast S128x128 2#32)
  | _ => shrui t (broadcast S128x128 6#32)

/-- The words of a slot, moved so that the sign bits of two codes stand under the mask. -/
def sgnShift (s : ℕ) (t : IVec S128x128 32) : IVec S128x128 32 :=
  match s with
  | 0 => shli t (broadcast S128x128 12#32)
  | 1 => shli t (broadcast S128x128 8#32)
  | 2 => shli t (broadcast S128x128 4#32)
  | _ => t

/-- The magnitude patterns of a slot, two bf16 patterns to a word. -/
def magBits (s : ℕ) (t : IVec S128x128 32) : FVec F S256x128 .bf16 :=
  bitcastToFloat .bf16 (bitcast S256x128 16 (addi (andi (magShift s t) (broadcast S128x128 29360576#32)) (broadcast S128x128 1056980736#32))
    bitcasts_S128x128_w32_S256x128_w16)

/-- The signs of a slot, as plus or minus one. -/
def sgnBits (s : ℕ) (t : IVec S128x128 32) : FVec F S256x128 .bf16 :=
  bitcastToFloat .bf16 (bitcast S256x128 16 (ori (broadcast S128x128 1065369472#32) (andi (sgnShift s t) (broadcast S128x128 2147516416#32)))
    bitcasts_S128x128_w32_S256x128_w16)

/-- The decoded codes of a slot. -/
def codes (s : ℕ) (t : IVec S128x128 32) : FVec F S256x128 .bf16 :=
  mulf (minimumf (magBits s t) (addf (subf (magBits s t) (broadcast S256x128 (Scalar.ofBits .bf16 0x3F80#16))) (magBits s t))) (sgnBits s t)

/-- A band of 16 rows lies in the tile. -/
theorem slices_band (r : Fin 16) : S256x128.Slices ![16 * r.val, 0] S16x128 :=
  ⟨rfl, fun a => by
    have := r.isLt
    refine Fin.cases ?_ (fun b => Fin.cases ?_ (fun b => b.elim0) b) a
    · show 16 * r.val + 16 ≤ 256; omega
    · show 0 + 128 ≤ 128; omega⟩

/-- Band `r` of the tile: its 16 rows of codes times its row of scales. -/
def band (w : FVec F S256x128 .bf16) (row : Vec F S1x128 .f32) (r : Fin 16) : FVec F S16x128 .bf16 :=
  mulf (extractStridedSlice S16x128 ![16 * r.val, 0] w (slices_band r))
    (truncf .bf16 (broadcastTo S16x128 (shapeCast S1x128 row shapeCasts_S1x128_S1x128) broadcasts_S1x128_S16x128) bitsLt_bf16_f32)

/-- The tile of a slot under 16 rows of scales. -/
def tile (s : ℕ) (t : IVec S128x128 32) (rows : Fin 16 → Vec F S1x128 .f32) : FVec F S256x128 .bf16 :=
  shapeCast S256x128 (concatenate S256x128 0 (List.ofFn fun r : Fin 16 => (⟨S16x128, band (codes s t) (rows r) r⟩ : (s : Shape) × (s.Idx → F .bf16)))
    concatenates_S16x128_S16x128_S16x128_S16x128_S16x128_S16x128_S16x128_S16x128_S16x128_S16x128_S16x128_S16x128_S16x128_S16x128_S16x128_S16x128_S256x128_d0)
    shapeCasts_S256x128_S256x128

/-! ## Where a tile's codes and scales come from -/

/-- A 256 × 256 chunk of the codes block lies in it. -/
theorem inb_chunk (g kp : ℕ) (hg : g < 5) (hk : kp < 3) : ∀ a, (![256 * g, 256 * kp] : Fin 2 → ℕ) a + S256x256.size a ≤ S1280x768.size a := fun a => by
  refine Fin.cases ?_ (fun b => Fin.cases ?_ (fun b => b.elim0) b) a
  · show 256 * g + 256 ≤ 1280; omega
  · show 256 * kp + 256 ≤ 768; omega

/-- A chunk of 256 rows of the scales block lies in it. -/
theorem inb_scales (g : ℕ) (hg : g < 5) : ∀ a, (![256 * g, 0] : Fin 2 → ℕ) a + S256x96.size a ≤ S1280x96.size a := fun a => by
  refine Fin.cases ?_ (fun b => Fin.cases ?_ (fun b => b.elim0) b) a
  · show 256 * g + 256 ≤ 1280; omega
  · show 0 + 96 ≤ 96; omega

/-- A row of 128 transposed scales lies in their buffer. -/
theorem inb_row (b h : ℕ) (r : Fin 16) (hb : b < 6) (hh : h < 2) : ∀ a, (![16 * b + r.val, 128 * h] : Fin 2 → ℕ) a + S1x128.size a ≤ S96x256.size a := fun a => by
  have := r.isLt
  refine Fin.cases ?_ (fun b => Fin.cases ?_ (fun b => b.elim0) b) a
  · show 16 * b + r.val + 1 ≤ 96; omega
  · show 128 * h + 128 ≤ 256; omega

/-- The tile of columns half `nh` and row half `kh`, of the codes chunk `(g, kp)` and the scales chunk `g`. -/
def chunkTile (x2 : Vec F S1280x768 .i8) (x3 : Vec F S1280x96 .fp8e4m3) (g kp kh nh : ℕ) (hg : g < 5) (hkp : kp < 3) (hkh : kh < 2) (hnh : nh < 2) : FVec F S256x128 .bf16 :=
  tile (2 * nh + kh) (k0_pay5 (VecWindow.window x2 ![256 * g, 256 * kp] S256x256.size (inb_chunk g kp hg hkp))) fun r =>
    VecWindow.window (k0_pay4 (VecWindow.window x3 ![256 * g, 0] S256x96.size (inb_scales g hg))) ![16 * (2 * kp + kh) + r.val, 128 * nh] S1x128.size
      (inb_row (2 * kp + kh) nh r (by omega) hnh)

/-- The decoded weight at row `k` and column `n` of a chunk of 1280 columns. -/
def chunkWeight (x2 : Vec F S1280x768 .i8) (x3 : Vec F S1280x96 .fp8e4m3) (k : Fin 1536) (n : Fin 1280) : F .bf16 :=
  chunkTile x2 x3 (n.val / 256) (k.val / 512) (k.val / 256 % 2) (n.val / 128 % 2) (by omega) (by omega) (by omega) (by omega)
    (ValueIdx.ix2 ⟨k.val % 256, by omega⟩ ⟨n.val % 128, by omega⟩)

/-- The number, in the order of the stores, of the tile that holds row `k` and column `n` of a chunk. -/
def tileNo (k n : ℕ) : ℕ := 12 * (n / 256) + 4 * (k / 512) + 2 * (k / 256 % 2) + n / 128 % 2

/-- A list of stores into the weights scratch is the first `n` tiles of the chunk that starts at column `b`: read
    back, the scratch has the decoded weights where those tiles lie and its former contents elsewhere. -/
def Filled (x2 : Vec F S1280x768 .i8) (x3 : Vec F S1280x96 .fp8e4m3) (b : ℕ) (n : ℕ) (L : List (View.Piece (Elt F) S1536x8960 .bf16)) : Prop :=
  ∀ (v : View sig .tc .vmem S1536x8960 .bf16) (f : v.ty.Contents (Elt F)) (y : S1536x8960.Idx),
    v.read (Elt F) (v.writes (Elt F) f L) y
      = if h : b ≤ (y 1).val ∧ (y 1).val < b + 1280 ∧ tileNo (y 0).val ((y 1).val - b) < n then
          chunkWeight x2 x3 (y 0) ⟨(y 1).val - b, by omega⟩
        else v.read (Elt F) f y

/-- No store yet. -/
theorem filled_nil (x2 : Vec F S1280x768 .i8) (x3 : Vec F S1280x96 .fp8e4m3) (b : ℕ) : Filled x2 x3 b 0 [] := fun v f y => by
  rw [dif_neg (by omega)]; rfl

/-- A position inside a tile of a chunk determines the tile. -/
theorem tile_of_pos {r c g kp kh nh : ℕ} (hkh : kh < 2) (hnh : nh < 2)
    (h0 : 256 * (2 * kp + kh) ≤ r) (h0' : r < 256 * (2 * kp + kh) + 256) (h1 : 256 * g + 128 * nh ≤ c) (h1' : c < 256 * g + 128 * nh + 128) :
    c / 256 = g ∧ r / 512 = kp ∧ r / 256 % 2 = kh ∧ c / 128 % 2 = nh := by
  have e1 : c / 128 = 2 * g + nh := by omega
  have e2 : r / 256 = 2 * kp + kh := by omega
  refine ⟨by omega, by omega, ?_, ?_⟩
  · rw [e2]; omega
  · rw [e1]; omega

/-- A position whose tile has a tile's number lies in that tile. -/
theorem pos_of_tileNo {r c g kp kh nh : ℕ} (hr : r < 1536) (hc : c < 1280) (hkp : kp < 3) (hkh : kh < 2) (hnh : nh < 2) (h : tileNo r c = 12 * g + 4 * kp + 2 * kh + nh) :
    (256 * (2 * kp + kh) ≤ r ∧ r < 256 * (2 * kp + kh) + 256) ∧ 256 * g + 128 * nh ≤ c ∧ c < 256 * g + 128 * nh + 128 := by
  have h1 : r / 256 % 2 < 2 := Nat.mod_lt _ (by omega)
  have h2 : c / 128 % 2 < 2 := Nat.mod_lt _ (by omega)
  have h3 : r / 512 < 3 := by omega
  have e1 : c / 256 = g ∧ r / 512 = kp ∧ r / 256 % 2 = kh ∧ c / 128 % 2 = nh := by
    unfold tileNo at h
    generalize r / 256 % 2 = A at *
    generalize c / 128 % 2 = B at *
    generalize r / 512 = C at *
    generalize c / 256 = D at *
    omega
  obtain ⟨a1, a2, a3, a4⟩ := e1
  have b1 : r / 256 = 2 * kp + kh := by omega
  have b2 : c / 128 = 2 * g + nh := by omega
  omega

/-- A position outside a tile is in one of the tiles up to it exactly when it is in one of those before it. -/
theorem next_iff {r q b g kp kh nh : ℕ} (hr : r < 1536) (hkp : kp < 3) (hkh : kh < 2) (hnh : nh < 2)
    (hne : ¬ ((256 * (2 * kp + kh) ≤ r ∧ r < 256 * (2 * kp + kh) + 256) ∧ (b + (256 * g + 128 * nh) ≤ q ∧ q < b + (256 * g + 128 * nh) + 128))) :
    (b ≤ q ∧ q < b + 1280 ∧ tileNo r (q - b) < 12 * g + 4 * kp + 2 * kh + nh) ↔ (b ≤ q ∧ q < b + 1280 ∧ tileNo r (q - b) < 12 * g + 4 * kp + 2 * kh + nh + 1) := by
  refine and_congr_right fun k1 => and_congr_right fun k2 => ⟨fun h => by omega, fun h => ?_⟩
  by_contra hlt
  obtain ⟨k5, k6, k7⟩ := pos_of_tileNo (g := g) hr (c := q - b) (by omega) hkp hkh hnh (by omega)
  exact hne ⟨k5, by omega, by omega⟩

/-- Inside a 256 × 128 window: the two coordinates' bounds. -/
theorem in_window_iff (p q : ℕ) (y : S1536x8960.Idx) :
    (∀ a, (![p, q] : Fin 2 → ℕ) a ≤ (y a).val ∧ (y a).val < (![p, q] : Fin 2 → ℕ) a + S256x128.size a)
      ↔ (p ≤ (y 0).val ∧ (y 0).val < p + 256) ∧ (q ≤ (y 1).val ∧ (y 1).val < q + 128) :=
  Fin.forall_fin_two

/-- The position inside the window of an index of it. -/
theorem unitLocal_window (p q : ℕ) (y : S1536x8960.Idx) (h : ∀ a, (![p, q] : Fin 2 → ℕ) a ≤ (y a).val ∧ (y a).val < (![p, q] : Fin 2 → ℕ) a + S256x128.size a)
    (i : Fin 256) (j : Fin 128) (hi : i.val = (y 0).val - p) (hj : j.val = (y 1).val - q) :
    Rect.unitLocal (s := S1536x8960) (off := ![p, q]) (size := S256x128.size) y h = ValueIdx.ix2 i j :=
  funext fun a => Fin.cases (Fin.ext hi.symm) (fun c => Fin.cases (Fin.ext hj.symm) (fun c => c.elim0) c) a

/-- The tile at a position of its window is the decoded weight there. -/
theorem tile_at (x2 : Vec F S1280x768 .i8) (x3 : Vec F S1280x96 .fp8e4m3) (b g kp kh nh : ℕ) (hg : g < 5) (hkp : kp < 3) (hkh : kh < 2) (hnh : nh < 2) (y : S1536x8960.Idx)
    (h : ∀ a, (![256 * (2 * kp + kh), b + (256 * g + 128 * nh)] : Fin 2 → ℕ) a ≤ (y a).val
      ∧ (y a).val < (![256 * (2 * kp + kh), b + (256 * g + 128 * nh)] : Fin 2 → ℕ) a + S256x128.size a) (e : F .bf16) :
    chunkTile x2 x3 g kp kh nh hg hkp hkh hnh (Rect.unitLocal (s := S1536x8960) (off := ![256 * (2 * kp + kh), b + (256 * g + 128 * nh)]) (size := S256x128.size) y h)
      = if h : b ≤ (y 1).val ∧ (y 1).val < b + 1280 ∧ tileNo (y 0).val ((y 1).val - b) < 12 * g + 4 * kp + 2 * kh + nh + 1 then
          chunkWeight x2 x3 (y 0) ⟨(y 1).val - b, by omega⟩
        else e := by
  obtain ⟨⟨p1, p2⟩, p3, p4⟩ := (in_window_iff _ _ y).mp h
  obtain ⟨c, hc⟩ : ∃ c, c = (y 1).val - b := ⟨_, rfl⟩
  have c1 : 256 * g + 128 * nh ≤ c := by omega
  have c2 : c < 256 * g + 128 * nh + 128 := by omega
  obtain ⟨e1, e2, e3, e4⟩ := tile_of_pos hkh hnh p1 p2 c1 c2
  have en : tileNo (y 0).val c = 12 * g + 4 * kp + 2 * kh + nh := by unfold tileNo; rw [e1, e2, e3, e4]
  have hin : b ≤ (y 1).val ∧ (y 1).val < b + 1280 ∧ tileNo (y 0).val ((y 1).val - b) < 12 * g + 4 * kp + 2 * kh + nh + 1 := by
    rw [← hc, en]
    omega
  rw [dif_pos hin]
  have ec : (⟨(y 1).val - b, by omega⟩ : Fin 1280) = ⟨c, by omega⟩ := Fin.ext hc.symm
  rw [ec]
  rw [unitLocal_window _ _ y h ⟨(y 0).val % 256, by omega⟩ ⟨c % 128, by omega⟩ (by show (y 0).val % 256 = _; omega) (by show c % 128 = _; omega)]
  unfold chunkWeight
  subst e1; subst e2; subst e3; subst e4
  rfl

/-- One more store: the tile of the codes chunk and the scales chunk that the body loads, at its place. -/
theorem filled_step {arg4 : Memref sig .tc .vmem S1280x768 .i8} (harg4 : arg4.IsWhole) {arg5 : Memref sig .tc .vmem S1280x96 .fp8e4m3} (harg5 : arg5.IsWhole)
    (arg8 : Memref sig .tc .vmem S96x256 .f32) {x2 : Vec F S1280x768 .i8} {x3 : Vec F S1280x96 .fp8e4m3} {b : ℕ}
    (g kp kh nh : ℕ) (hg : g < 5) (hkp : kp < 3) (hkh : kh < 2) (hnh : nh < 2) {L : List (View.Piece (Elt F) S1536x8960 .bf16)}
    {L' : List (View.Piece (Elt F) S96x256 .f32)} {off : Fin 2 → ℕ} (inb : ∀ a, off a + S256x128.size a ≤ S1536x8960.size a) {w : Vec F S256x128 .bf16}
    (hL : Filled x2 x3 b (12 * g + 4 * kp + 2 * kh + nh) L) (hoff : off = ![256 * (2 * kp + kh), b + (256 * g + 128 * nh)])
    (hw : w = tile (2 * nh + kh) (k0_pay5 (View.readAt (Elt F) arg4.view (Rect.unit (s := S1280x768) ![256 * g, 256 * kp] S256x256.size (inb_chunk g kp hg hkp)).toLoadRect (harg4.unread x2)))
      fun r => arg8.view.readCov (⟨Rect.unit ![0, 0] S96x256.size inb_S96x256_S96x256_0_0,
          k0_pay4 (View.readAt (Elt F) arg5.view (Rect.unit (s := S1280x96) ![256 * g, 0] S256x96.size (inb_scales g hg)).toLoadRect (harg5.unread x3))⟩ :: L')
        (Rect.unit (s := S96x256) ![16 * (2 * kp + kh) + r.val, 128 * nh] S1x128.size (inb_row (2 * kp + kh) nh r (by omega) hnh)).toLoadRect) :
    Filled x2 x3 b (12 * g + 4 * kp + 2 * kh + nh + 1) (⟨Rect.unit off S256x128.size inb, w⟩ :: L) := by
  have ew : w = chunkTile x2 x3 g kp kh nh hg hkp hkh hnh := by
    rw [hw]
    unfold chunkTile
    congr 1
    · rw [View.readAt_unit _ _ _ rfl (inb_chunk g kp hg hkp), harg4.read_unread]
    · funext r
      show View.readAt (Elt F) arg8.view _ _ = _
      rw [View.readAt_unit _ _ _ rfl (inb_row (2 * kp + kh) nh r (by omega) hnh), View.read_writes_full,
        View.readAt_unit _ _ _ rfl (inb_scales g hg), harg5.read_unread]
  intro v f y
  have hy0 : (y 0).val < 1536 := (y 0).isLt
  rw [View.read_writes_cons_unit v f inb w L y hoff]
  by_cases h : ∀ a, (![256 * (2 * kp + kh), b + (256 * g + 128 * nh)] : Fin 2 → ℕ) a ≤ (y a).val
      ∧ (y a).val < (![256 * (2 * kp + kh), b + (256 * g + 128 * nh)] : Fin 2 → ℕ) a + S256x128.size a
  · rw [dif_pos h, ew]
    exact tile_at x2 x3 b g kp kh nh hg hkp hkh hnh y h _
  · rw [dif_neg h, hL v f y]
    have hne := mt (in_window_iff _ _ y).mpr h
    have hn := next_iff (b := b) (g := g) hy0 hkp hkh hnh hne
    by_cases hc : b ≤ (y 1).val ∧ (y 1).val < b + 1280 ∧ tileNo (y 0).val ((y 1).val - b) < 12 * g + 4 * kp + 2 * kh + nh
    · rw [dif_pos hc, dif_pos (hn.mp hc)]
    · rw [dif_neg hc, dif_neg (mt hn.mpr hc)]

end Cert.Kernel

end
-- ==== Proof.KernelFrame.Chain.lean ====
/-
  The sixty stores of the decode, in their order: each writes the tile of its place, so that together they leave the
  decoded weights of the chunk.
-/
module

public import proofs.«01_k».proof.Proof.KernelFrame.BodyFirst
public import proofs.«01_k».proof.Proof.KernelFrame.Tile

@[expose] public section

set_option maxRecDepth 16384

noncomputable section

namespace Cert.Kernel

open Cert.Kernel.Gen
open Idealize.ShloMosaic Idealize.ShloMosaic.TcCoe

variable {F : FTy → Type} [FloatOps F]

/-- The column a store starts at: the chunk's first column and the tile's place in the chunk. -/
theorem col_eq (i : grid0.Coords) (a b : ℕ) (ha : a ≤ 1024) (hb : b ≤ 128) :
    (Scalar.indexCast (Scalar.addi (Scalar.addi (Scalar.muli (BitVec.ofNat 32 (i 1).val) 1280#32) (BitVec.ofNat 32 a)) (BitVec.ofNat 32 b))).toNat
      = 1280 * (i 1).val + (a + b) := by
  have hi : (i 1).val < 7 := (i 1).isLt
  generalize (i 1).val = j at hi
  show (((BitVec.ofNat 32 j * 1280#32) + BitVec.ofNat 32 a) + BitVec.ofNat 32 b).toNat = _
  simp only [BitVec.toNat_add, BitVec.toNat_mul, BitVec.toNat_ofNat]
  omega

/-- The offsets of a store, as the body computes them: rows `256 · kb`, columns from the chunk's first column on. -/
def storeOff (i : grid0.Coords) (kb g nh : ℕ) : Fin 2 → ℕ :=
  match kb with
  | 0 => k0_off1 i (BitVec.ofNat 32 (256 * g)) (BitVec.ofNat 32 (128 * nh))
  | 1 => k0_off2 i (BitVec.ofNat 32 (256 * g)) (BitVec.ofNat 32 (128 * nh))
  | 2 => k0_off3 i (BitVec.ofNat 32 (256 * g)) (BitVec.ofNat 32 (128 * nh))
  | 3 => k0_off4 i (BitVec.ofNat 32 (256 * g)) (BitVec.ofNat 32 (128 * nh))
  | 4 => k0_off5 i (BitVec.ofNat 32 (256 * g)) (BitVec.ofNat 32 (128 * nh))
  | _ => k0_off6 i (BitVec.ofNat 32 (256 * g)) (BitVec.ofNat 32 (128 * nh))

/-- The offsets of a store, in closed form. -/
theorem storeOff_eq (i : grid0.Coords) (kb g nh : ℕ) (hkb : kb < 6) (hg : g < 5) (hnh : nh < 2) :
    storeOff i kb g nh = ![256 * kb, 1280 * (i 1).val + (256 * g + 128 * nh)] := by
  rw [← col_eq i (256 * g) (128 * nh) (by omega) (by omega)]
  interval_cases kb <;> rfl

/-- A store's window lies in the weights scratch. -/
theorem storeOff_inb (i : grid0.Coords) (kb g nh : ℕ) (hkb : kb < 6) (hg : g < 5) (hnh : nh < 2) :
    ∀ a, storeOff i kb g nh a + S256x128.size a ≤ S1536x8960.size a := by
  have hi : (i 1).val < 7 := (i 1).isLt
  rw [storeOff_eq i kb g nh hkb hg hnh]
  refine Fin.forall_fin_two.mpr ⟨?_, ?_⟩
  · show 256 * kb + 256 ≤ 1536; omega
  · show 1280 * (i 1).val + (256 * g + 128 * nh) + 128 ≤ 8960; omega

/-- The stores into the buffer of transposed scales, up to the chunk of 256 columns before `g`, the last first. -/
def scaleStores (arg5 : Memref sig .tc .vmem S1280x96 .fp8e4m3) (harg5 : arg5.IsWhole) (x3 : Vec F S1280x96 .fp8e4m3) : ℕ → List (View.Piece (Elt F) S96x256 .f32)
  | 0 => []
  | g + 1 => ⟨Rect.unit ![0, 0] S96x256.size inb_S96x256_S96x256_0_0,
      k0_pay4 (View.readAt (Elt F) arg5.view (Rect.unit (s := S1280x96) ![256 * (g % 5), 0] S256x96.size (inb_scales (g % 5) (Nat.mod_lt _ (by decide)))).toLoadRect (harg5.unread x3))⟩
      :: scaleStores arg5 harg5 x3 g

/-- The last of them holds the chunk `g` of the scales. -/
theorem scaleStores_succ (arg5 : Memref sig .tc .vmem S1280x96 .fp8e4m3) (harg5 : arg5.IsWhole) (x3 : Vec F S1280x96 .fp8e4m3) (g : ℕ) (hg : g < 5) :
    scaleStores arg5 harg5 x3 (g + 1) = ⟨Rect.unit ![0, 0] S96x256.size inb_S96x256_S96x256_0_0,
      k0_pay4 (View.readAt (Elt F) arg5.view (Rect.unit (s := S1280x96) ![256 * g, 0] S256x96.size (inb_scales g hg)).toLoadRect (harg5.unread x3))⟩
      :: scaleStores arg5 harg5 x3 g := by
  have key : ∀ g' (h' : g' < 5), g' = g →
      View.readAt (Elt F) arg5.view (Rect.unit (s := S1280x96) ![256 * g', 0] S256x96.size (inb_scales g' h')).toLoadRect (harg5.unread x3)
        = View.readAt (Elt F) arg5.view (Rect.unit (s := S1280x96) ![256 * g, 0] S256x96.size (inb_scales g hg)).toLoadRect (harg5.unread x3) := by
    rintro g' h' rfl; rfl
  show _ :: _ = _
  rw [key (g % 5) (Nat.mod_lt _ (by decide)) (Nat.mod_eq_of_lt hg)]

/-- The first `n` stores into the weights scratch, the last first. -/
def tileStores (i : grid0.Coords) (arg4 : Memref sig .tc .vmem S1280x768 .i8) (harg4 : arg4.IsWhole) (arg5 : Memref sig .tc .vmem S1280x96 .fp8e4m3) (harg5 : arg5.IsWhole)
    (arg8 : Memref sig .tc .vmem S96x256 .f32) (x2 : Vec F S1280x768 .i8) (x3 : Vec F S1280x96 .fp8e4m3) : ℕ → List (View.Piece (Elt F) S1536x8960 .bf16)
  | 0 => []
  | n + 1 =>
    ⟨Rect.unit (storeOff i (2 * (n / 4 % 3) + n / 2 % 2) (n / 12 % 5) (n % 2)) S256x128.size
        (storeOff_inb i (2 * (n / 4 % 3) + n / 2 % 2) (n / 12 % 5) (n % 2) (by omega) (Nat.mod_lt _ (by decide)) (Nat.mod_lt _ (by decide))),
      tile (2 * (n % 2) + n / 2 % 2)
        (k0_pay5 (View.readAt (Elt F) arg4.view (Rect.unit (s := S1280x768) ![256 * (n / 12 % 5), 256 * (n / 4 % 3)] S256x256.size
          (inb_chunk _ _ (Nat.mod_lt _ (by decide)) (Nat.mod_lt _ (by decide)))).toLoadRect (harg4.unread x2)))
        fun r => arg8.view.readCov (scaleStores arg5 harg5 x3 (n / 12 % 5 + 1))
          (Rect.unit (s := S96x256) ![16 * (2 * (n / 4 % 3) + n / 2 % 2) + r.val, 128 * (n % 2)] S1x128.size
            (inb_row _ _ r (by omega) (Nat.mod_lt _ (by decide)))).toLoadRect⟩
      :: tileStores i arg4 harg4 arg5 harg5 arg8 x2 x3 n

/-- What the run stores into the weights scratch are those sixty stores. -/
theorem stores_eq (c : Dev nD) (i : grid0.Coords) (arg4 : Memref sig .tc .vmem S1280x768 .i8) (harg4 : arg4.IsWhole) (arg5 : Memref sig .tc .vmem S1280x96 .fp8e4m3) (harg5 : arg5.IsWhole)
    (arg8 : Memref sig .tc .vmem S96x256 .f32) (hc0 : cond0_0 i) (x2 : Vec F S1280x768 .i8) (x3 : Vec F S1280x96 .fp8e4m3) :
    run_first.sl.HS0_60 c i arg4 harg4 arg5 harg5 arg8 hc0 x2 x3 = tileStores i arg4 harg4 arg5 harg5 arg8 x2 x3 60 := rfl

/-- The first `n` stores fill the first `n` tiles. -/
theorem filled_stores (i : grid0.Coords) (arg4 : Memref sig .tc .vmem S1280x768 .i8) (harg4 : arg4.IsWhole) (arg5 : Memref sig .tc .vmem S1280x96 .fp8e4m3) (harg5 : arg5.IsWhole)
    (arg8 : Memref sig .tc .vmem S96x256 .f32) (x2 : Vec F S1280x768 .i8) (x3 : Vec F S1280x96 .fp8e4m3) :
    ∀ n, n ≤ 60 → Filled x2 x3 (1280 * (i 1).val) n (tileStores i arg4 harg4 arg5 harg5 arg8 x2 x3 n)
  | 0, _ => filled_nil x2 x3 _
  | n + 1, hn => by
    have en : n = 12 * (n / 12 % 5) + 4 * (n / 4 % 3) + 2 * (n / 2 % 2) + n % 2 := by omega
    have ih := filled_stores i arg4 harg4 arg5 harg5 arg8 x2 x3 n (by omega)
    have ih' : Filled x2 x3 (1280 * (i 1).val) (12 * (n / 12 % 5) + 4 * (n / 4 % 3) + 2 * (n / 2 % 2) + n % 2) (tileStores i arg4 harg4 arg5 harg5 arg8 x2 x3 n) := by rw [← en]; exact ih
    have hs := filled_step harg4 harg5 arg8 (n / 12 % 5) (n / 4 % 3) (n / 2 % 2) (n % 2) (by omega) (by omega) (by omega) (by omega)
      (L' := scaleStores arg5 harg5 x3 (n / 12 % 5)) (storeOff_inb i (2 * (n / 4 % 3) + n / 2 % 2) (n / 12 % 5) (n % 2) (by omega) (by omega) (by omega))
      ih' (storeOff_eq i _ _ _ (by omega) (by omega) (by omega)) rfl
    rw [← en, ← scaleStores_succ arg5 harg5 x3 (n / 12 % 5) (by omega)] at hs
    exact hs

/-- What the run stores into the weights scratch: read back, the scratch has the decoded weights in the columns of the
    chunk and its former contents elsewhere. -/
theorem filled_run (c : Dev nD) (i : grid0.Coords) (arg4 : Memref sig .tc .vmem S1280x768 .i8) (harg4 : arg4.IsWhole) (arg5 : Memref sig .tc .vmem S1280x96 .fp8e4m3) (harg5 : arg5.IsWhole)
    (arg8 : Memref sig .tc .vmem S96x256 .f32) (hc0 : cond0_0 i) (x2 : Vec F S1280x768 .i8) (x3 : Vec F S1280x96 .fp8e4m3) :
    Filled x2 x3 (1280 * (i 1).val) 60 (run_first.sl.HS0_60 c i arg4 harg4 arg5 harg5 arg8 hc0 x2 x3) := by
  rw [stores_eq]
  exact filled_stores i arg4 harg4 arg5 harg5 arg8 x2 x3 60 le_rfl

end Cert.Kernel

end
-- ==== Proof.KernelFrame.Run.lean ====
/-
  The run of the kernel. The weights scratch is carried from point to point: after the first `t` points it holds
  the decoded weights in the columns of the first `t` chunks. Every point leaves in its output buffer the block of `x` times
  the decoded columns of its chunk. From this the launch, the frame, and the contents of the output array.
-/
module

public import proofs.«01_k».proof.Proof.KernelFrame.BodyLater
public import proofs.«01_k».proof.Proof.KernelFrame.BodyFirst
public import proofs.«01_k».proof.Proof.KernelFrame.Chain
public import Idealize.ShloMosaic.Lib.Claim

@[expose] public section

set_option maxRecDepth 16384

noncomputable section

namespace Cert.Kernel

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The columns of a point -/

/-- The body's column offset into the weights scratch: the first column of the chunk. -/
theorem off7_1 (i : grid0.Coords) : k0_off7 i 1 = 1280 * (i 1).val := by
  have hi : (i 1).val < 7 := (i 1).isLt
  show (BitVec.ofNat 32 (i 1).val * 1280#32).toNat = _
  generalize (i 1).val = j at hi
  simp only [BitVec.toNat_mul, BitVec.toNat_ofNat]
  omega

/-- Its row offset: all rows. -/
theorem off7_0 (i : grid0.Coords) : k0_off7 i 0 = 0 := rfl

/-- The output block depends on the weights scratch only through the columns of the point's chunk. -/
theorem outBlock_congr (i : grid0.Coords) (x0 : Vec F S1 .f32) (x1 : Vec F S1024x1536 .bf16) (w w' : Vec F S1536x8960 .bf16)
    (h : ∀ y : S1536x8960.Idx, 1280 * (i 1).val ≤ (y 1).val → (y 1).val < 1280 * (i 1).val + 1280 → w y = w' y) :
    outBlock i x0 x1 w = outBlock i x0 x1 w' := by
  unfold outBlock
  congr 1
  funext z
  have hz : (z 1).val < 1280 := (z 1).isLt
  refine h _ ?_ ?_
  · exact (off7_1 i).symm.le.trans (Nat.le_add_right _ _)
  · exact (congrArg (· + 1 * (z 1).val) (off7_1 i)).trans_lt (by show 1280 * (i 1).val + 1 * (z 1).val < _; omega)

/-- Point `t` works on the columns of chunk `t % 7`. -/
theorem coord1 (t : Fin cfg0.N) : (grid0.coords t 1).val = t.val % 7 := by
  have e1 : (grid0.coords t 1).val = t.val / 1 % 7 := Pipeline.Grid.coords_val t 1 (by decide) rfl
  rw [e1, Nat.div_one]

/-- and on the rows of block `t / 7`. -/
theorem coord0 (t : Fin cfg0.N) : (grid0.coords t 0).val = t.val / 7 := by
  have ht : t.val < 224 := Nat.lt_of_lt_of_eq t.isLt N_0
  have e0 : (grid0.coords t 0).val = t.val / 7 % 32 := Pipeline.Grid.coords_val t 0 (by decide) rfl
  rw [e0]; omega

variable (m : (ℓ : Loc nD τ sig) → Buf (Elt F) ℓ) (ρ : Dev nD → PrngReg)

/-- The point that decodes column `n`. -/
def pointOf (n : Fin 8960) : Fin cfg0.N := ⟨n.val / 1280, by have : cfg0.N = 224 := N_0; have := n.isLt; omega⟩

/-- The decoded weights, all chunks together. -/
def decoded (c : Dev nD) : Vec F S1536x8960 .bf16 := fun y =>
  chunkWeight (iblk m c 2 (pointOf (y 1))) (iblk m c 3 (pointOf (y 1))) (y 0) ⟨(y 1).val % 1280, Nat.mod_lt _ (by decide)⟩

/-- The weights scratch holds the decoded weights of the first `n` chunks. -/
def Decoded (c : Dev nD) (n : ℕ) (w : Vec F S1536x8960 .bf16) : Prop :=
  ∀ y : S1536x8960.Idx, (y 1).val < 1280 * n → w y = decoded m c y

/-- After the stores of chunk `j`, the first `j + 1` chunks are decoded if the first `j` were, -/
theorem decoded_step (c : Dev nD) (t : Fin cfg0.N) (ht : t.val < 7) (L : List (View.Piece (Elt F) S1536x8960 .bf16))
    (hL : Filled (iblk m c 2 t) (iblk m c 3 t) (1280 * (grid0.coords t 1).val) 60 L)
    (v : View sig .tc .vmem S1536x8960 .bf16) (f : v.ty.Contents (Elt F)) :
    (∀ y : S1536x8960.Idx, 1280 * t.val ≤ (y 1).val → (y 1).val < 1280 * t.val + 1280 → v.read (Elt F) (v.writes (Elt F) f L) y = decoded m c y)
    ∧ (Decoded m c t.val (v.read (Elt F) f) → Decoded m c (t.val + 1) (v.read (Elt F) (v.writes (Elt F) f L))) := by
  have hc : (grid0.coords t 1).val = t.val := by rw [coord1]; omega
  rw [hc] at hL
  have key : ∀ y : S1536x8960.Idx, 1280 * t.val ≤ (y 1).val → (y 1).val < 1280 * t.val + 1280 → v.read (Elt F) (v.writes (Elt F) f L) y = decoded m c y := by
    intro y h1 h2
    have hy0 : (y 0).val < 1536 := (y 0).isLt
    have hno : tileNo (y 0).val ((y 1).val - 1280 * t.val) < 60 := by unfold tileNo; generalize (y 0).val = a at hy0; generalize (y 1).val = b at h1 h2; omega
    rw [hL v f y, dif_pos ⟨h1, h2, hno⟩]
    have hp : pointOf (y 1) = t := Fin.ext (by show (y 1).val / 1280 = t.val; generalize (y 1).val = b at h1 h2; omega)
    unfold decoded
    rw [hp]
    congr 1
    refine Fin.ext ?_
    show (y 1).val - 1280 * t.val = (y 1).val % 1280
    generalize (y 1).val = b at h1 h2; omega
  refine ⟨key, fun hd y hy => ?_⟩
  by_cases h1 : 1280 * t.val ≤ (y 1).val
  · exact key y h1 (by omega)
  · rw [hL v f y, dif_neg (fun h => h1 h.1)]
    exact hd y (by omega)

/-! ## The pipeline's proof data -/

/-- What the pipeline on core `c` holds: the arrays as the region finds them; after the body each input's buffer at its
    block and the output's at the block of `x` times the decoded columns; between points the weights scratch with the
    chunks decoded so far. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlock (grid0.coords t) (iblk m c 0 t) (iblk m c 1 t) (decoded m c)
  Φ t := iprop(iprop((∃ w, ⌜Decoded m c t.val w⌝ ∗ owns (c : Thread nD τ) scM0_0 fullShare w) ∗ (∃ d, owns (c : Thread nD τ) scM0_1 fullShare d)) ∗ (∃ r, prngReg c r))
  q _ := fullShare
  owed _ := 0

theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = outBlock (grid0.coords t) (iblk m c 0 t) (iblk m c 1 t) (decoded m c) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 1600000 in
/-- The body at any point: it decodes its chunk at the first seven points and nothing later, and its output block is the
    block of `x` times the decoded columns of its chunk. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4]
  rw [show (dats m 0 c).Φ t.castSucc = iprop(iprop((∃ w, ⌜Decoded m c t.val w⌝ ∗ owns (c : Thread nD τ) scM0_0 fullShare w) ∗ (∃ d, owns (c : Thread nD τ) scM0_1 fullShare d)) ∗ (∃ r, prngReg c r)) from rfl,
    show (dats m 0 c).Φ t.succ = iprop(iprop((∃ w, ⌜Decoded m c (t.val + 1) w⌝ ∗ owns (c : Thread nD τ) scM0_0 fullShare w) ∗ (∃ d, owns (c : Thread nD τ) scM0_1 fullShare d)) ∗ (∃ r, prngReg c r)) from rfl]
  have hN : t.val < 224 := lt_of_lt_of_eq t.isLt (show cfg0.N = 224 from N_0)
  by_cases h0 : t.val < 7
  · iintro ⟨⟨⟨⟨%w, %hw, HS0⟩, HS1⟩, Hg⟩, Ho, ⟨%d0, H0⟩, ⟨%d1, H1⟩, ⟨%d2, H2⟩, ⟨%d3, H3⟩, ⟨%d4, H4⟩⟩
    iapply ((run_first c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t) (iblk m c 3 t) w).2 Set.univ _)
    have hL : Filled (iblk m c 2 t) (iblk m c 3 t) (1280 * (grid0.coords t 1).val) 60 (run_first c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t) (iblk m c 3 t) w).1 :=
      filled_run c (grid0.coords t) (ms0_2 t) (hs0_2 t) (ms0_3 t) (hs0_3 t) scM0_1 ((hcond0_0 t).mpr h0) (iblk m c 2 t) (iblk m c 3 t)
    generalize (run_first c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t) (iblk m c 3 t) w).1 = L at hL
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    rw [outBlock_congr (grid0.coords t) (iblk m c 0 t) (iblk m c 1 t) (scM0_0.view.read (Elt F) (scM0_0.view.writes (Elt F) scM0_0.view.junk L)) (decoded m c)
      (by rw [coord1, Nat.mod_eq_of_lt h0]; exact (decoded_step m c t h0 L hL _ _).1)]
    iintro ⟨H0, H1, H2, H3, H4, HS0, HS1⟩
    isplitl [HS0 HS1 Hg]
    · isplitl [HS0 HS1]
      · isplitl [HS0]
        · iexists _; isplitr; swap; · iexact HS0
          ipureintro
          exact (decoded_step m c t h0 L hL _ _).2 (by rw [(Memref.isWhole_whole cc0_scratch0).read_unread]; exact hw)
        iexact HS1
      iexact Hg
    isplitl [Ho]; · iexact Ho
    isplitl [H0]; · iexact H0
    isplitl [H1]; · iexact H1
    isplitl [H2]; · iexact H2
    isplitl [H3]; · iexact H3
    iexact H4
  · iintro ⟨⟨⟨⟨%w, %hw, HS0⟩, HS1⟩, Hg⟩, Ho, ⟨%d0, H0⟩, ⟨%d1, H1⟩, ⟨%d2, H2⟩, ⟨%d3, H3⟩, ⟨%d4, H4⟩⟩
    have hall : ∀ y : S1536x8960.Idx, w y = decoded m c y := fun y => hw y (by have : (y 1).val < 8960 := (y 1).isLt; omega)
    obtain rfl : w = decoded m c := funext hall
    iapply ((run_later c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (iblk m c 0 t) (iblk m c 1 t) (iblk m c 2 t) (iblk m c 3 t) (decoded m c)) Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    iintro ⟨H0, H1, H2, H3, H4, HS0, HS1⟩
    isplitl [HS0 HS1 Hg]
    · isplitl [HS0 HS1]
      · isplitl [HS0]
        · iexists _; isplitr; swap; · iexact HS0
          ipureintro
          exact fun y _ => rfl
        iexact HS1
      iexact Hg
    isplitl [Ho]; · iexact Ho
    isplitl [H0]; · iexact H0
    isplitl [H1]; · iexact H1
    isplitl [H2]; · iexact H2
    isplitl [H3]; · iexact H3
    iexact H4

/-- The body table's row at point `t`'s slots is the body at that point. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

/-- Before the first point nothing is decoded: the class invariant yields the carried one, -/
theorem phi_in (c : Dev nD) : Pipeline.ΦA spec0 c ⊢ (dats m 0 c).Φ 0 := by
  rw [PhiA0_eq]
  rw [show (dats m 0 c).Φ 0 = iprop(iprop((∃ w, ⌜Decoded m c 0 w⌝ ∗ owns (c : Thread nD τ) scM0_0 fullShare w) ∗ (∃ d, owns (c : Thread nD τ) scM0_1 fullShare d)) ∗ (∃ r, prngReg c r)) from rfl]
  iintro ⟨⟨⟨%w, HS0⟩, HS1⟩, Hg⟩
  isplitl [HS0 HS1]
  · isplitl [HS0]
    · iexists w; isplitr
      · ipureintro; exact fun y hy => absurd hy (by omega)
      iexact HS0
    iexact HS1
  iexact Hg

/-- and after the last point the scratch is forgotten. -/
theorem phi_out (c : Dev nD) : (dats m 0 c).Φ (Fin.last cfg0.N) ⊢ Pipeline.ΦA spec0 c := by
  rw [PhiA0_eq]
  rw [show (dats m 0 c).Φ (Fin.last cfg0.N) = iprop(iprop((∃ w, ⌜Decoded m c (Fin.last cfg0.N).val w⌝ ∗ owns (c : Thread nD τ) scM0_0 fullShare w) ∗ (∃ d, owns (c : Thread nD τ) scM0_1 fullShare d)) ∗ (∃ r, prngReg c r)) from rfl]
  iintro ⟨⟨⟨%w, %hw, HS0⟩, HS1⟩, Hg⟩
  isplitl [HS0 HS1]
  · isplitl [HS0]
    · iexists w; iexact HS0
    iexact HS1
  iexact Hg

set_option backward.isDefEq.respectTransparency.types false in
/-- The launch: every final state has the pipeline's arrays at what the points leave in them, every other unscoped buffer
    unchanged, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := phi_in m) (hout := phi_out m)

/-- The launch without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: the argument arrays end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel

end
-- ==== Proof.RefStages.lean ====
/-
  The reference, one operation at a time: the value each operation after the scale widening writes (`val_‹buffer›`), and
  how it is read at an index (`val_‹buffer›_apply`). The parameters: `x0` the activations, `x3` the global scale, `r0` the
  widened block scales, `e0` the unpacked codes, one word per weight.
-/
module

public import proofs.«01_k».proof.Proof.Gen.ReferenceIdeal.Frame
public import Idealize.ShloMosaic.Lib.StableHlo.Run
public import Idealize.ShloMosaic.Lib.Pipeline.Value
public import Idealize.ShloMosaic.Lib.ValueIdx
public import Idealize.ShloMosaic.PureOps.Ideal.Laws

@[expose] public section

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]

-- %c_1 = stablehlo.constant dense<8> : tensor<i32>
def val_main_c_1 : (⟨S_, .i32⟩ : BufTy).Contents (Elt F) :=
  constantI S_ 32 8#32
theorem val_main_c_1_apply (i : S_.Idx) :
    val_main_c_1 (F := F) i = 8#32 := rfl

-- %10 = stablehlo.broadcast_in_dim %c_1, dims = [] : (tensor<i32>) -> tensor<8960x1536xi32>
def val_main_v10 : (⟨S8960x1536, .i32⟩ : BufTy).Contents (Elt F) :=
  broadcastInDim S8960x1536 ![] bcast_S_S8960x1536 (val_main_c_1 (F := F))
abbrev idx_main_v10 (i : S8960x1536.Idx) : S_.Idx := fun a => a.elim0
theorem val_main_v10_apply (i : S8960x1536.Idx) :
    val_main_v10 (F := F) i = val_main_c_1 (F := F) (idx_main_v10 i) := by
  unfold val_main_v10
  generalize val_main_c_1 (F := F) = y
  exact broadcastInDim_apply _ bcast_S_S8960x1536 y i (idx_main_v10 i) (fun a => a.elim0)

-- %11 = stablehlo.and %8, %10 : tensor<8960x1536xi32>
def val_main_v11 (e0 : (⟨S8960x1536, .i32⟩ : BufTy).Contents (Elt F)) : (⟨S8960x1536, .i32⟩ : BufTy).Contents (Elt F) :=
  andi (e0) (val_main_v10 (F := F))
theorem val_main_v11_apply (e0 : (⟨S8960x1536, .i32⟩ : BufTy).Contents (Elt F)) (i : S8960x1536.Idx) :
    val_main_v11 (F := F) e0 i = IntOp.andi (e0 i) (val_main_v10 (F := F) i) := rfl

-- %c_2 = stablehlo.constant dense<0> : tensor<i32>
def val_main_c_2 : (⟨S_, .i32⟩ : BufTy).Contents (Elt F) :=
  constantI S_ 32 0#32
theorem val_main_c_2_apply (i : S_.Idx) :
    val_main_c_2 (F := F) i = 0#32 := rfl

-- %12 = stablehlo.broadcast_in_dim %c_2, dims = [] : (tensor<i32>) -> tensor<8960x1536xi32>
def val_main_v12 : (⟨S8960x1536, .i32⟩ : BufTy).Contents (Elt F) :=
  broadcastInDim S8960x1536 ![] bcast_S_S8960x1536 (val_main_c_2 (F := F))
abbrev idx_main_v12 (i : S8960x1536.Idx) : S_.Idx := fun a => a.elim0
theorem val_main_v12_apply (i : S8960x1536.Idx) :
    val_main_v12 (F := F) i = val_main_c_2 (F := F) (idx_main_v12 i) := by
  unfold val_main_v12
  generalize val_main_c_2 (F := F) = y
  exact broadcastInDim_apply _ bcast_S_S8960x1536 y i (idx_main_v12 i) (fun a => a.elim0)

-- %13 = stablehlo.compare NE, %11, %12, SIGNED : (tensor<8960x1536xi32>, tensor<8960x1536xi32>) -> tensor<8960x1536xi1>
def val_main_v13 (e0 : (⟨S8960x1536, .i32⟩ : BufTy).Contents (Elt F)) : (⟨S8960x1536, .i1⟩ : BufTy).Contents (Elt F) :=
  cmpi .ne (val_main_v11 (F := F) e0) (val_main_v12 (F := F))
theorem val_main_v13_apply (e0 : (⟨S8960x1536, .i32⟩ : BufTy).Contents (Elt F)) (i : S8960x1536.Idx) :
    val_main_v13 (F := F) e0 i = IntOp.cmpi .ne (val_main_v11 (F := F) e0 i) (val_main_v12 (F := F) i) := rfl

-- %c_3 = stablehlo.constant dense<4> : tensor<i32>
def val_main_c_3 : (⟨S_, .i32⟩ : BufTy).Contents (Elt F) :=
  constantI S_ 32 4#32
theorem val_main_c_3_apply (i : S_.Idx) :
    val_main_c_3 (F := F) i = 4#32 := rfl

-- %14 = stablehlo.broadcast_in_dim %c_3, dims = [] : (tensor<i32>) -> tensor<8960x1536xi32>
def val_main_v14 : (⟨S8960x1536, .i32⟩ : BufTy).Contents (Elt F) :=
  broadcastInDim S8960x1536 ![] bcast_S_S8960x1536 (val_main_c_3 (F := F))
abbrev idx_main_v14 (i : S8960x1536.Idx) : S_.Idx := fun a => a.elim0
theorem val_main_v14_apply (i : S8960x1536.Idx) :
    val_main_v14 (F := F) i = val_main_c_3 (F := F) (idx_main_v14 i) := by
  unfold val_main_v14
  generalize val_main_c_3 (F := F) = y
  exact broadcastInDim_apply _ bcast_S_S8960x1536 y i (idx_main_v14 i) (fun a => a.elim0)

-- %15 = stablehlo.and %8, %14 : tensor<8960x1536xi32>
def val_main_v15 (e0 : (⟨S8960x1536, .i32⟩ : BufTy).Contents (Elt F)) : (⟨S8960x1536, .i32⟩ : BufTy).Contents (Elt F) :=
  andi (e0) (val_main_v14 (F := F))
theorem val_main_v15_apply (e0 : (⟨S8960x1536, .i32⟩ : BufTy).Contents (Elt F)) (i : S8960x1536.Idx) :
    val_main_v15 (F := F) e0 i = IntOp.andi (e0 i) (val_main_v14 (F := F) i) := rfl

-- %c_4 = stablehlo.constant dense<0> : tensor<i32>
def val_main_c_4 : (⟨S_, .i32⟩ : BufTy).Contents (Elt F) :=
  constantI S_ 32 0#32
theorem val_main_c_4_apply (i : S_.Idx) :
    val_main_c_4 (F := F) i = 0#32 := rfl

-- %16 = stablehlo.broadcast_in_dim %c_4, dims = [] : (tensor<i32>) -> tensor<8960x1536xi32>
def val_main_v16 : (⟨S8960x1536, .i32⟩ : BufTy).Contents (Elt F) :=
  broadcastInDim S8960x1536 ![] bcast_S_S8960x1536 (val_main_c_4 (F := F))
abbrev idx_main_v16 (i : S8960x1536.Idx) : S_.Idx := fun a => a.elim0
theorem val_main_v16_apply (i : S8960x1536.Idx) :
    val_main_v16 (F := F) i = val_main_c_4 (F := F) (idx_main_v16 i) := by
  unfold val_main_v16
  generalize val_main_c_4 (F := F) = y
  exact broadcastInDim_apply _ bcast_S_S8960x1536 y i (idx_main_v16 i) (fun a => a.elim0)

-- %17 = stablehlo.compare NE, %15, %16, SIGNED : (tensor<8960x1536xi32>, tensor<8960x1536xi32>) -> tensor<8960x1536xi1>
def val_main_v17 (e0 : (⟨S8960x1536, .i32⟩ : BufTy).Contents (Elt F)) : (⟨S8960x1536, .i1⟩ : BufTy).Contents (Elt F) :=
  cmpi .ne (val_main_v15 (F := F) e0) (val_main_v16 (F := F))
theorem val_main_v17_apply (e0 : (⟨S8960x1536, .i32⟩ : BufTy).Contents (Elt F)) (i : S8960x1536.Idx) :
    val_main_v17 (F := F) e0 i = IntOp.cmpi .ne (val_main_v15 (F := F) e0 i) (val_main_v16 (F := F) i) := rfl

-- %c_5 = stablehlo.constant dense<2> : tensor<i32>
def val_main_c_5 : (⟨S_, .i32⟩ : BufTy).Contents (Elt F) :=
  constantI S_ 32 2#32
theorem val_main_c_5_apply (i : S_.Idx) :
    val_main_c_5 (F := F) i = 2#32 := rfl

-- %18 = stablehlo.broadcast_in_dim %c_5, dims = [] : (tensor<i32>) -> tensor<8960x1536xi32>
def val_main_v18 : (⟨S8960x1536, .i32⟩ : BufTy).Contents (Elt F) :=
  broadcastInDim S8960x1536 ![] bcast_S_S8960x1536 (val_main_c_5 (F := F))
abbrev idx_main_v18 (i : S8960x1536.Idx) : S_.Idx := fun a => a.elim0
theorem val_main_v18_apply (i : S8960x1536.Idx) :
    val_main_v18 (F := F) i = val_main_c_5 (F := F) (idx_main_v18 i) := by
  unfold val_main_v18
  generalize val_main_c_5 (F := F) = y
  exact broadcastInDim_apply _ bcast_S_S8960x1536 y i (idx_main_v18 i) (fun a => a.elim0)

-- %19 = stablehlo.and %8, %18 : tensor<8960x1536xi32>
def val_main_v19 (e0 : (⟨S8960x1536, .i32⟩ : BufTy).Contents (Elt F)) : (⟨S8960x1536, .i32⟩ : BufTy).Contents (Elt F) :=
  andi (e0) (val_main_v18 (F := F))
theorem val_main_v19_apply (e0 : (⟨S8960x1536, .i32⟩ : BufTy).Contents (Elt F)) (i : S8960x1536.Idx) :
    val_main_v19 (F := F) e0 i = IntOp.andi (e0 i) (val_main_v18 (F := F) i) := rfl

-- %c_6 = stablehlo.constant dense<0> : tensor<i32>
def val_main_c_6 : (⟨S_, .i32⟩ : BufTy).Contents (Elt F) :=
  constantI S_ 32 0#32
theorem val_main_c_6_apply (i : S_.Idx) :
    val_main_c_6 (F := F) i = 0#32 := rfl

-- %20 = stablehlo.broadcast_in_dim %c_6, dims = [] : (tensor<i32>) -> tensor<8960x1536xi32>
def val_main_v20 : (⟨S8960x1536, .i32⟩ : BufTy).Contents (Elt F) :=
  broadcastInDim S8960x1536 ![] bcast_S_S8960x1536 (val_main_c_6 (F := F))
abbrev idx_main_v20 (i : S8960x1536.Idx) : S_.Idx := fun a => a.elim0
theorem val_main_v20_apply (i : S8960x1536.Idx) :
    val_main_v20 (F := F) i = val_main_c_6 (F := F) (idx_main_v20 i) := by
  unfold val_main_v20
  generalize val_main_c_6 (F := F) = y
  exact broadcastInDim_apply _ bcast_S_S8960x1536 y i (idx_main_v20 i) (fun a => a.elim0)

-- %21 = stablehlo.compare NE, %19, %20, SIGNED : (tensor<8960x1536xi32>, tensor<8960x1536xi32>) -> tensor<8960x1536xi1>
def val_main_v21 (e0 : (⟨S8960x1536, .i32⟩ : BufTy).Contents (Elt F)) : (⟨S8960x1536, .i1⟩ : BufTy).Contents (Elt F) :=
  cmpi .ne (val_main_v19 (F := F) e0) (val_main_v20 (F := F))
theorem val_main_v21_apply (e0 : (⟨S8960x1536, .i32⟩ : BufTy).Contents (Elt F)) (i : S8960x1536.Idx) :
    val_main_v21 (F := F) e0 i = IntOp.cmpi .ne (val_main_v19 (F := F) e0 i) (val_main_v20 (F := F) i) := rfl

-- %c_7 = stablehlo.constant dense<1> : tensor<i32>
def val_main_c_7 : (⟨S_, .i32⟩ : BufTy).Contents (Elt F) :=
  constantI S_ 32 1#32
theorem val_main_c_7_apply (i : S_.Idx) :
    val_main_c_7 (F := F) i = 1#32 := rfl

-- %22 = stablehlo.broadcast_in_dim %c_7, dims = [] : (tensor<i32>) -> tensor<8960x1536xi32>
def val_main_v22 : (⟨S8960x1536, .i32⟩ : BufTy).Contents (Elt F) :=
  broadcastInDim S8960x1536 ![] bcast_S_S8960x1536 (val_main_c_7 (F := F))
abbrev idx_main_v22 (i : S8960x1536.Idx) : S_.Idx := fun a => a.elim0
theorem val_main_v22_apply (i : S8960x1536.Idx) :
    val_main_v22 (F := F) i = val_main_c_7 (F := F) (idx_main_v22 i) := by
  unfold val_main_v22
  generalize val_main_c_7 (F := F) = y
  exact broadcastInDim_apply _ bcast_S_S8960x1536 y i (idx_main_v22 i) (fun a => a.elim0)

-- %23 = stablehlo.and %8, %22 : tensor<8960x1536xi32>
def val_main_v23 (e0 : (⟨S8960x1536, .i32⟩ : BufTy).Contents (Elt F)) : (⟨S8960x1536, .i32⟩ : BufTy).Contents (Elt F) :=
  andi (e0) (val_main_v22 (F := F))
theorem val_main_v23_apply (e0 : (⟨S8960x1536, .i32⟩ : BufTy).Contents (Elt F)) (i : S8960x1536.Idx) :
    val_main_v23 (F := F) e0 i = IntOp.andi (e0 i) (val_main_v22 (F := F) i) := rfl

-- %c_8 = stablehlo.constant dense<0> : tensor<i32>
def val_main_c_8 : (⟨S_, .i32⟩ : BufTy).Contents (Elt F) :=
  constantI S_ 32 0#32
theorem val_main_c_8_apply (i : S_.Idx) :
    val_main_c_8 (F := F) i = 0#32 := rfl

-- %24 = stablehlo.broadcast_in_dim %c_8, dims = [] : (tensor<i32>) -> tensor<8960x1536xi32>
def val_main_v24 : (⟨S8960x1536, .i32⟩ : BufTy).Contents (Elt F) :=
  broadcastInDim S8960x1536 ![] bcast_S_S8960x1536 (val_main_c_8 (F := F))
abbrev idx_main_v24 (i : S8960x1536.Idx) : S_.Idx := fun a => a.elim0
theorem val_main_v24_apply (i : S8960x1536.Idx) :
    val_main_v24 (F := F) i = val_main_c_8 (F := F) (idx_main_v24 i) := by
  unfold val_main_v24
  generalize val_main_c_8 (F := F) = y
  exact broadcastInDim_apply _ bcast_S_S8960x1536 y i (idx_main_v24 i) (fun a => a.elim0)

-- %25 = stablehlo.compare NE, %23, %24, SIGNED : (tensor<8960x1536xi32>, tensor<8960x1536xi32>) -> tensor<8960x1536xi1>
def val_main_v25 (e0 : (⟨S8960x1536, .i32⟩ : BufTy).Contents (Elt F)) : (⟨S8960x1536, .i1⟩ : BufTy).Contents (Elt F) :=
  cmpi .ne (val_main_v23 (F := F) e0) (val_main_v24 (F := F))
theorem val_main_v25_apply (e0 : (⟨S8960x1536, .i32⟩ : BufTy).Contents (Elt F)) (i : S8960x1536.Idx) :
    val_main_v25 (F := F) e0 i = IntOp.cmpi .ne (val_main_v23 (F := F) e0 i) (val_main_v24 (F := F) i) := rfl

-- %cst = stablehlo.constant dense<6.000000e+00> : tensor<bf16>
def val_main_cst : (⟨S_, .bf16⟩ : BufTy).Contents (Elt F) :=
  constant S_ .bf16 0x40C0#16
theorem val_main_cst_apply (i : S_.Idx) :
    val_main_cst (F := F) i = FloatOps.ofBits .bf16 0x40C0#16 := rfl

-- %cst_9 = stablehlo.constant dense<4.000000e+00> : tensor<bf16>
def val_main_cst_9 : (⟨S_, .bf16⟩ : BufTy).Contents (Elt F) :=
  constant S_ .bf16 0x4080#16
theorem val_main_cst_9_apply (i : S_.Idx) :
    val_main_cst_9 (F := F) i = FloatOps.ofBits .bf16 0x4080#16 := rfl

-- @_where's %0 = stablehlo.broadcast_in_dim %arg1, dims = [] : (tensor<bf16>) -> tensor<8960x1536xbf16>, in %26 = func.call @_where(…) (record main_call0)
def val_main_call0_v0 : (⟨S8960x1536, .bf16⟩ : BufTy).Contents (Elt F) :=
  broadcastInDim S8960x1536 ![] bcast_S_S8960x1536 (val_main_cst (F := F))
abbrev idx_main_call0_v0 (i : S8960x1536.Idx) : S_.Idx := fun a => a.elim0
theorem val_main_call0_v0_apply (i : S8960x1536.Idx) :
    val_main_call0_v0 (F := F) i = val_main_cst (F := F) (idx_main_call0_v0 i) := by
  unfold val_main_call0_v0
  generalize val_main_cst (F := F) = y
  exact broadcastInDim_apply _ bcast_S_S8960x1536 y i (idx_main_call0_v0 i) (fun a => a.elim0)

-- @_where's %1 = stablehlo.broadcast_in_dim %arg2, dims = [] : (tensor<bf16>) -> tensor<8960x1536xbf16>, in %26 = func.call @_where(…) (record main_call0)
def val_main_call0_v1 : (⟨S8960x1536, .bf16⟩ : BufTy).Contents (Elt F) :=
  broadcastInDim S8960x1536 ![] bcast_S_S8960x1536 (val_main_cst_9 (F := F))
abbrev idx_main_call0_v1 (i : S8960x1536.Idx) : S_.Idx := fun a => a.elim0
theorem val_main_call0_v1_apply (i : S8960x1536.Idx) :
    val_main_call0_v1 (F := F) i = val_main_cst_9 (F := F) (idx_main_call0_v1 i) := by
  unfold val_main_call0_v1
  generalize val_main_cst_9 (F := F) = y
  exact broadcastInDim_apply _ bcast_S_S8960x1536 y i (idx_main_call0_v1 i) (fun a => a.elim0)

-- %26 = func.call @_where(…) (record main_call0) result 0: @_where's %2 = stablehlo.select %arg0, %0, %1 : tensor<8960x1536xi1>, tensor<8960x1536xbf16>
def val_main_v26 (e0 : (⟨S8960x1536, .i32⟩ : BufTy).Contents (Elt F)) : (⟨S8960x1536, .bf16⟩ : BufTy).Contents (Elt F) :=
  select (val_main_v25 (F := F) e0) (val_main_call0_v0 (F := F)) (val_main_call0_v1 (F := F))
theorem val_main_v26_apply (e0 : (⟨S8960x1536, .i32⟩ : BufTy).Contents (Elt F)) (i : S8960x1536.Idx) :
    val_main_v26 (F := F) e0 i = Scalar.select (val_main_v25 (F := F) e0 i) (val_main_call0_v0 (F := F) i) (val_main_call0_v1 (F := F) i) := rfl

-- %cst_10 = stablehlo.constant dense<3.000000e+00> : tensor<bf16>
def val_main_cst_10 : (⟨S_, .bf16⟩ : BufTy).Contents (Elt F) :=
  constant S_ .bf16 0x4040#16
theorem val_main_cst_10_apply (i : S_.Idx) :
    val_main_cst_10 (F := F) i = FloatOps.ofBits .bf16 0x4040#16 := rfl

-- %cst_11 = stablehlo.constant dense<2.000000e+00> : tensor<bf16>
def val_main_cst_11 : (⟨S_, .bf16⟩ : BufTy).Contents (Elt F) :=
  constant S_ .bf16 0x4000#16
theorem val_main_cst_11_apply (i : S_.Idx) :
    val_main_cst_11 (F := F) i = FloatOps.ofBits .bf16 0x4000#16 := rfl

-- @_where's %0 = stablehlo.broadcast_in_dim %arg1, dims = [] : (tensor<bf16>) -> tensor<8960x1536xbf16>, in %27 = func.call @_where(…) (record main_call1)
def val_main_call1_v0 : (⟨S8960x1536, .bf16⟩ : BufTy).Contents (Elt F) :=
  broadcastInDim S8960x1536 ![] bcast_S_S8960x1536 (val_main_cst_10 (F := F))
abbrev idx_main_call1_v0 (i : S8960x1536.Idx) : S_.Idx := fun a => a.elim0
theorem val_main_call1_v0_apply (i : S8960x1536.Idx) :
    val_main_call1_v0 (F := F) i = val_main_cst_10 (F := F) (idx_main_call1_v0 i) := by
  unfold val_main_call1_v0
  generalize val_main_cst_10 (F := F) = y
  exact broadcastInDim_apply _ bcast_S_S8960x1536 y i (idx_main_call1_v0 i) (fun a => a.elim0)

-- @_where's %1 = stablehlo.broadcast_in_dim %arg2, dims = [] : (tensor<bf16>) -> tensor<8960x1536xbf16>, in %27 = func.call @_where(…) (record main_call1)
def val_main_call1_v1 : (⟨S8960x1536, .bf16⟩ : BufTy).Contents (Elt F) :=
  broadcastInDim S8960x1536 ![] bcast_S_S8960x1536 (val_main_cst_11 (F := F))
abbrev idx_main_call1_v1 (i : S8960x1536.Idx) : S_.Idx := fun a => a.elim0
theorem val_main_call1_v1_apply (i : S8960x1536.Idx) :
    val_main_call1_v1 (F := F) i = val_main_cst_11 (F := F) (idx_main_call1_v1 i) := by
  unfold val_main_call1_v1
  generalize val_main_cst_11 (F := F) = y
  exact broadcastInDim_apply _ bcast_S_S8960x1536 y i (idx_main_call1_v1 i) (fun a => a.elim0)

-- %27 = func.call @_where(…) (record main_call1) result 0: @_where's %2 = stablehlo.select %arg0, %0, %1 : tensor<8960x1536xi1>, tensor<8960x1536xbf16>
def val_main_v27 (e0 : (⟨S8960x1536, .i32⟩ : BufTy).Contents (Elt F)) : (⟨S8960x1536, .bf16⟩ : BufTy).Contents (Elt F) :=
  select (val_main_v25 (F := F) e0) (val_main_call1_v0 (F := F)) (val_main_call1_v1 (F := F))
theorem val_main_v27_apply (e0 : (⟨S8960x1536, .i32⟩ : BufTy).Contents (Elt F)) (i : S8960x1536.Idx) :
    val_main_v27 (F := F) e0 i = Scalar.select (val_main_v25 (F := F) e0 i) (val_main_call1_v0 (F := F) i) (val_main_call1_v1 (F := F) i) := rfl

-- %28 = func.call @_where_0(…) (record main_call2) result 0: @_where_0's %0 = stablehlo.select %arg0, %arg1, %arg2 : tensor<8960x1536xi1>, tensor<8960x1536xbf16>
def val_main_v28 (e0 : (⟨S8960x1536, .i32⟩ : BufTy).Contents (Elt F)) : (⟨S8960x1536, .bf16⟩ : BufTy).Contents (Elt F) :=
  select (val_main_v21 (F := F) e0) (val_main_v26 (F := F) e0) (val_main_v27 (F := F) e0)
theorem val_main_v28_apply (e0 : (⟨S8960x1536, .i32⟩ : BufTy).Contents (Elt F)) (i : S8960x1536.Idx) :
    val_main_v28 (F := F) e0 i = Scalar.select (val_main_v21 (F := F) e0 i) (val_main_v26 (F := F) e0 i) (val_main_v27 (F := F) e0 i) := rfl

-- %cst_12 = stablehlo.constant dense<1.500000e+00> : tensor<bf16>
def val_main_cst_12 : (⟨S_, .bf16⟩ : BufTy).Contents (Elt F) :=
  constant S_ .bf16 0x3FC0#16
theorem val_main_cst_12_apply (i : S_.Idx) :
    val_main_cst_12 (F := F) i = FloatOps.ofBits .bf16 0x3FC0#16 := rfl

-- %cst_13 = stablehlo.constant dense<1.000000e+00> : tensor<bf16>
def val_main_cst_13 : (⟨S_, .bf16⟩ : BufTy).Contents (Elt F) :=
  constant S_ .bf16 0x3F80#16
theorem val_main_cst_13_apply (i : S_.Idx) :
    val_main_cst_13 (F := F) i = FloatOps.ofBits .bf16 0x3F80#16 := rfl

-- @_where's %0 = stablehlo.broadcast_in_dim %arg1, dims = [] : (tensor<bf16>) -> tensor<8960x1536xbf16>, in %29 = func.call @_where(…) (record main_call3)
def val_main_call3_v0 : (⟨S8960x1536, .bf16⟩ : BufTy).Contents (Elt F) :=
  broadcastInDim S8960x1536 ![] bcast_S_S8960x1536 (val_main_cst_12 (F := F))
abbrev idx_main_call3_v0 (i : S8960x1536.Idx) : S_.Idx := fun a => a.elim0
theorem val_main_call3_v0_apply (i : S8960x1536.Idx) :
    val_main_call3_v0 (F := F) i = val_main_cst_12 (F := F) (idx_main_call3_v0 i) := by
  unfold val_main_call3_v0
  generalize val_main_cst_12 (F := F) = y
  exact broadcastInDim_apply _ bcast_S_S8960x1536 y i (idx_main_call3_v0 i) (fun a => a.elim0)

-- @_where's %1 = stablehlo.broadcast_in_dim %arg2, dims = [] : (tensor<bf16>) -> tensor<8960x1536xbf16>, in %29 = func.call @_where(…) (record main_call3)
def val_main_call3_v1 : (⟨S8960x1536, .bf16⟩ : BufTy).Contents (Elt F) :=
  broadcastInDim S8960x1536 ![] bcast_S_S8960x1536 (val_main_cst_13 (F := F))
abbrev idx_main_call3_v1 (i : S8960x1536.Idx) : S_.Idx := fun a => a.elim0
theorem val_main_call3_v1_apply (i : S8960x1536.Idx) :
    val_main_call3_v1 (F := F) i = val_main_cst_13 (F := F) (idx_main_call3_v1 i) := by
  unfold val_main_call3_v1
  generalize val_main_cst_13 (F := F) = y
  exact broadcastInDim_apply _ bcast_S_S8960x1536 y i (idx_main_call3_v1 i) (fun a => a.elim0)

-- %29 = func.call @_where(…) (record main_call3) result 0: @_where's %2 = stablehlo.select %arg0, %0, %1 : tensor<8960x1536xi1>, tensor<8960x1536xbf16>
def val_main_v29 (e0 : (⟨S8960x1536, .i32⟩ : BufTy).Contents (Elt F)) : (⟨S8960x1536, .bf16⟩ : BufTy).Contents (Elt F) :=
  select (val_main_v25 (F := F) e0) (val_main_call3_v0 (F := F)) (val_main_call3_v1 (F := F))
theorem val_main_v29_apply (e0 : (⟨S8960x1536, .i32⟩ : BufTy).Contents (Elt F)) (i : S8960x1536.Idx) :
    val_main_v29 (F := F) e0 i = Scalar.select (val_main_v25 (F := F) e0 i) (val_main_call3_v0 (F := F) i) (val_main_call3_v1 (F := F) i) := rfl

-- %cst_14 = stablehlo.constant dense<5.000000e-01> : tensor<bf16>
def val_main_cst_14 : (⟨S_, .bf16⟩ : BufTy).Contents (Elt F) :=
  constant S_ .bf16 0x3F00#16
theorem val_main_cst_14_apply (i : S_.Idx) :
    val_main_cst_14 (F := F) i = FloatOps.ofBits .bf16 0x3F00#16 := rfl

-- %cst_15 = stablehlo.constant dense<0.000000e+00> : tensor<bf16>
def val_main_cst_15 : (⟨S_, .bf16⟩ : BufTy).Contents (Elt F) :=
  constant S_ .bf16 0x0000#16
theorem val_main_cst_15_apply (i : S_.Idx) :
    val_main_cst_15 (F := F) i = FloatOps.ofBits .bf16 0x0000#16 := rfl

-- @_where's %0 = stablehlo.broadcast_in_dim %arg1, dims = [] : (tensor<bf16>) -> tensor<8960x1536xbf16>, in %30 = func.call @_where(…) (record main_call4)
def val_main_call4_v0 : (⟨S8960x1536, .bf16⟩ : BufTy).Contents (Elt F) :=
  broadcastInDim S8960x1536 ![] bcast_S_S8960x1536 (val_main_cst_14 (F := F))
abbrev idx_main_call4_v0 (i : S8960x1536.Idx) : S_.Idx := fun a => a.elim0
theorem val_main_call4_v0_apply (i : S8960x1536.Idx) :
    val_main_call4_v0 (F := F) i = val_main_cst_14 (F := F) (idx_main_call4_v0 i) := by
  unfold val_main_call4_v0
  generalize val_main_cst_14 (F := F) = y
  exact broadcastInDim_apply _ bcast_S_S8960x1536 y i (idx_main_call4_v0 i) (fun a => a.elim0)

-- @_where's %1 = stablehlo.broadcast_in_dim %arg2, dims = [] : (tensor<bf16>) -> tensor<8960x1536xbf16>, in %30 = func.call @_where(…) (record main_call4)
def val_main_call4_v1 : (⟨S8960x1536, .bf16⟩ : BufTy).Contents (Elt F) :=
  broadcastInDim S8960x1536 ![] bcast_S_S8960x1536 (val_main_cst_15 (F := F))
abbrev idx_main_call4_v1 (i : S8960x1536.Idx) : S_.Idx := fun a => a.elim0
theorem val_main_call4_v1_apply (i : S8960x1536.Idx) :
    val_main_call4_v1 (F := F) i = val_main_cst_15 (F := F) (idx_main_call4_v1 i) := by
  unfold val_main_call4_v1
  generalize val_main_cst_15 (F := F) = y
  exact broadcastInDim_apply _ bcast_S_S8960x1536 y i (idx_main_call4_v1 i) (fun a => a.elim0)

-- %30 = func.call @_where(…) (record main_call4) result 0: @_where's %2 = stablehlo.select %arg0, %0, %1 : tensor<8960x1536xi1>, tensor<8960x1536xbf16>
def val_main_v30 (e0 : (⟨S8960x1536, .i32⟩ : BufTy).Contents (Elt F)) : (⟨S8960x1536, .bf16⟩ : BufTy).Contents (Elt F) :=
  select (val_main_v25 (F := F) e0) (val_main_call4_v0 (F := F)) (val_main_call4_v1 (F := F))
theorem val_main_v30_apply (e0 : (⟨S8960x1536, .i32⟩ : BufTy).Contents (Elt F)) (i : S8960x1536.Idx) :
    val_main_v30 (F := F) e0 i = Scalar.select (val_main_v25 (F := F) e0 i) (val_main_call4_v0 (F := F) i) (val_main_call4_v1 (F := F) i) := rfl

-- %31 = func.call @_where_0(…) (record main_call5) result 0: @_where_0's %0 = stablehlo.select %arg0, %arg1, %arg2 : tensor<8960x1536xi1>, tensor<8960x1536xbf16>
def val_main_v31 (e0 : (⟨S8960x1536, .i32⟩ : BufTy).Contents (Elt F)) : (⟨S8960x1536, .bf16⟩ : BufTy).Contents (Elt F) :=
  select (val_main_v21 (F := F) e0) (val_main_v29 (F := F) e0) (val_main_v30 (F := F) e0)
theorem val_main_v31_apply (e0 : (⟨S8960x1536, .i32⟩ : BufTy).Contents (Elt F)) (i : S8960x1536.Idx) :
    val_main_v31 (F := F) e0 i = Scalar.select (val_main_v21 (F := F) e0 i) (val_main_v29 (F := F) e0 i) (val_main_v30 (F := F) e0 i) := rfl

-- %32 = func.call @_where_0(…) (record main_call6) result 0: @_where_0's %0 = stablehlo.select %arg0, %arg1, %arg2 : tensor<8960x1536xi1>, tensor<8960x1536xbf16>
def val_main_v32 (e0 : (⟨S8960x1536, .i32⟩ : BufTy).Contents (Elt F)) : (⟨S8960x1536, .bf16⟩ : BufTy).Contents (Elt F) :=
  select (val_main_v17 (F := F) e0) (val_main_v28 (F := F) e0) (val_main_v31 (F := F) e0)
theorem val_main_v32_apply (e0 : (⟨S8960x1536, .i32⟩ : BufTy).Contents (Elt F)) (i : S8960x1536.Idx) :
    val_main_v32 (F := F) e0 i = Scalar.select (val_main_v17 (F := F) e0 i) (val_main_v28 (F := F) e0 i) (val_main_v31 (F := F) e0 i) := rfl

-- %33 = stablehlo.negate %32 : tensor<8960x1536xbf16>
def val_main_v33 (e0 : (⟨S8960x1536, .i32⟩ : BufTy).Contents (Elt F)) : (⟨S8960x1536, .bf16⟩ : BufTy).Contents (Elt F) :=
  Host.negf (val_main_v32 (F := F) e0)
theorem val_main_v33_apply (e0 : (⟨S8960x1536, .i32⟩ : BufTy).Contents (Elt F)) (i : S8960x1536.Idx) :
    val_main_v33 (F := F) e0 i = FloatOps.hostNegf (val_main_v32 (F := F) e0 i) := rfl

-- %34 = func.call @_where_0(…) (record main_call7) result 0: @_where_0's %0 = stablehlo.select %arg0, %arg1, %arg2 : tensor<8960x1536xi1>, tensor<8960x1536xbf16>
def val_main_v34 (e0 : (⟨S8960x1536, .i32⟩ : BufTy).Contents (Elt F)) : (⟨S8960x1536, .bf16⟩ : BufTy).Contents (Elt F) :=
  select (val_main_v13 (F := F) e0) (val_main_v33 (F := F) e0) (val_main_v32 (F := F) e0)
theorem val_main_v34_apply (e0 : (⟨S8960x1536, .i32⟩ : BufTy).Contents (Elt F)) (i : S8960x1536.Idx) :
    val_main_v34 (F := F) e0 i = Scalar.select (val_main_v13 (F := F) e0 i) (val_main_v33 (F := F) e0 i) (val_main_v32 (F := F) e0 i) := rfl

-- %35 = stablehlo.reshape %34 : (tensor<8960x1536xbf16>) -> tensor<8960x96x16xbf16>
def val_main_v35 (e0 : (⟨S8960x1536, .i32⟩ : BufTy).Contents (Elt F)) : (⟨S8960x96x16, .bf16⟩ : BufTy).Contents (Elt F) :=
  shapeCast _ (val_main_v34 (F := F) e0) shapeCasts_S8960x1536_S8960x96x16
set_option backward.proofsInPublic true in
abbrev idx_main_v35 (i : S8960x96x16.Idx) : S8960x1536.Idx := fun a => match a with
  | ⟨0, _⟩ => ⟨(((i 0).val * 96 + (i 1).val) * 16 + (i 2).val) / 1536, by have h0 : (i 0).val < 8960 := (i 0).isLt; have h1 : (i 1).val < 96 := (i 1).isLt; have h2 : (i 2).val < 16 := (i 2).isLt; show (((i 0).val * 96 + (i 1).val) * 16 + (i 2).val) / 1536 < 8960; omega⟩
  | ⟨1, _⟩ => ⟨(((i 0).val * 96 + (i 1).val) * 16 + (i 2).val) % 1536, by have h0 : (i 0).val < 8960 := (i 0).isLt; have h1 : (i 1).val < 96 := (i 1).isLt; have h2 : (i 2).val < 16 := (i 2).isLt; show (((i 0).val * 96 + (i 1).val) * 16 + (i 2).val) % 1536 < 1536; omega⟩
theorem val_main_v35_apply (e0 : (⟨S8960x1536, .i32⟩ : BufTy).Contents (Elt F)) (i : S8960x96x16.Idx) :
    val_main_v35 (F := F) e0 i = val_main_v34 (F := F) e0 (idx_main_v35 i) := by
  unfold val_main_v35
  generalize val_main_v34 (F := F) e0 = y
  exact shapeCast_apply y shapeCasts_S8960x1536_S8960x96x16 i (idx_main_v35 i)
    (by rewrite [Shape.rowMajor_val_two, Shape.rowMajor_val_three]; have h0 : (i 0).val < 8960 := (i 0).isLt; have h1 : (i 1).val < 96 := (i 1).isLt; have h2 : (i 2).val < 16 := (i 2).isLt; show (((i 0).val * 96 + (i 1).val) * 16 + (i 2).val) / 1536 * 1536 + (((i 0).val * 96 + (i 1).val) * 16 + (i 2).val) % 1536 = ((i 0).val * 96 + (i 1).val) * 16 + (i 2).val; omega)

-- %36 = stablehlo.broadcast_in_dim %9, dims = [0, 1] : (tensor<8960x96xbf16>) -> tensor<8960x96x1xbf16>
def val_main_v36 (r0 : (⟨S8960x96, .bf16⟩ : BufTy).Contents (Elt F)) : (⟨S8960x96x1, .bf16⟩ : BufTy).Contents (Elt F) :=
  broadcastInDim S8960x96x1 ![0, 1] bcast_S8960x96_S8960x96x1_0_1 (r0)
abbrev idx_main_v36 (i : S8960x96x1.Idx) : S8960x96.Idx := fun a => match a with
  | ⟨0, _⟩ => ⟨(i 0).val, (i 0).isLt⟩
  | ⟨1, _⟩ => ⟨(i 1).val, (i 1).isLt⟩
theorem val_main_v36_apply (r0 : (⟨S8960x96, .bf16⟩ : BufTy).Contents (Elt F)) (i : S8960x96x1.Idx) :
    val_main_v36 (F := F) r0 i = r0 (idx_main_v36 i) := by
  unfold val_main_v36
  exact broadcastInDim_apply _ bcast_S8960x96_S8960x96x1_0_1 r0 i (idx_main_v36 i) (fun a => match a with
    | ⟨0, _⟩ => by show (i 0).val = if (8960 : Nat) = 1 then 0 else (i 0).val; rw [if_neg (by decide)]
    | ⟨1, _⟩ => by show (i 1).val = if (96 : Nat) = 1 then 0 else (i 1).val; rw [if_neg (by decide)])

-- %37 = stablehlo.broadcast_in_dim %36, dims = [0, 1, 2] : (tensor<8960x96x1xbf16>) -> tensor<8960x96x16xbf16>
def val_main_v37 (r0 : (⟨S8960x96, .bf16⟩ : BufTy).Contents (Elt F)) : (⟨S8960x96x16, .bf16⟩ : BufTy).Contents (Elt F) :=
  broadcastInDim S8960x96x16 ![0, 1, 2] bcast_S8960x96x1_S8960x96x16_0_1_2 (val_main_v36 (F := F) r0)
abbrev idx_main_v37 (i : S8960x96x16.Idx) : S8960x96x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v37_apply (r0 : (⟨S8960x96, .bf16⟩ : BufTy).Contents (Elt F)) (i : S8960x96x16.Idx) :
    val_main_v37 (F := F) r0 i = val_main_v36 (F := F) r0 (idx_main_v37 i) := by
  unfold val_main_v37
  generalize val_main_v36 (F := F) r0 = y
  exact broadcastInDim_apply _ bcast_S8960x96x1_S8960x96x16_0_1_2 y i (idx_main_v37 i) (fun a => match a with
    | ⟨0, _⟩ => by show (i 0).val = if (8960 : Nat) = 1 then 0 else (i 0).val; rw [if_neg (by decide)]
    | ⟨1, _⟩ => by show (i 1).val = if (96 : Nat) = 1 then 0 else (i 1).val; rw [if_neg (by decide)]
    | ⟨2, _⟩ => by show 0 = if (1 : Nat) = 1 then 0 else (i 2).val; rw [if_pos rfl])

-- %38 = stablehlo.multiply %35, %37 : tensor<8960x96x16xbf16>
def val_main_v38 (r0 : (⟨S8960x96, .bf16⟩ : BufTy).Contents (Elt F)) (e0 : (⟨S8960x1536, .i32⟩ : BufTy).Contents (Elt F)) : (⟨S8960x96x16, .bf16⟩ : BufTy).Contents (Elt F) :=
  mulf (val_main_v35 (F := F) e0) (val_main_v37 (F := F) r0)
theorem val_main_v38_apply (r0 : (⟨S8960x96, .bf16⟩ : BufTy).Contents (Elt F)) (e0 : (⟨S8960x1536, .i32⟩ : BufTy).Contents (Elt F)) (i : S8960x96x16.Idx) :
    val_main_v38 (F := F) r0 e0 i = FloatOps.mulf (val_main_v35 (F := F) e0 i) (val_main_v37 (F := F) r0 i) := rfl

-- %39 = stablehlo.reshape %38 : (tensor<8960x96x16xbf16>) -> tensor<8960x1536xbf16>
def val_main_v39 (r0 : (⟨S8960x96, .bf16⟩ : BufTy).Contents (Elt F)) (e0 : (⟨S8960x1536, .i32⟩ : BufTy).Contents (Elt F)) : (⟨S8960x1536, .bf16⟩ : BufTy).Contents (Elt F) :=
  shapeCast _ (val_main_v38 (F := F) r0 e0) shapeCasts_S8960x96x16_S8960x1536
set_option backward.proofsInPublic true in
abbrev idx_main_v39 (i : S8960x1536.Idx) : S8960x96x16.Idx := fun a => match a with
  | ⟨0, _⟩ => ⟨((i 0).val * 1536 + (i 1).val) / 1536, by have h0 : (i 0).val < 8960 := (i 0).isLt; have h1 : (i 1).val < 1536 := (i 1).isLt; show ((i 0).val * 1536 + (i 1).val) / 1536 < 8960; omega⟩
  | ⟨1, _⟩ => ⟨((i 0).val * 1536 + (i 1).val) / 16 % 96, by have h0 : (i 0).val < 8960 := (i 0).isLt; have h1 : (i 1).val < 1536 := (i 1).isLt; show ((i 0).val * 1536 + (i 1).val) / 16 % 96 < 96; omega⟩
  | ⟨2, _⟩ => ⟨((i 0).val * 1536 + (i 1).val) % 16, by have h0 : (i 0).val < 8960 := (i 0).isLt; have h1 : (i 1).val < 1536 := (i 1).isLt; show ((i 0).val * 1536 + (i 1).val) % 16 < 16; omega⟩
theorem val_main_v39_apply (r0 : (⟨S8960x96, .bf16⟩ : BufTy).Contents (Elt F)) (e0 : (⟨S8960x1536, .i32⟩ : BufTy).Contents (Elt F)) (i : S8960x1536.Idx) :
    val_main_v39 (F := F) r0 e0 i = val_main_v38 (F := F) r0 e0 (idx_main_v39 i) := by
  unfold val_main_v39
  generalize val_main_v38 (F := F) r0 e0 = y
  exact shapeCast_apply y shapeCasts_S8960x96x16_S8960x1536 i (idx_main_v39 i)
    (by rewrite [Shape.rowMajor_val_three, Shape.rowMajor_val_two]; have h0 : (i 0).val < 8960 := (i 0).isLt; have h1 : (i 1).val < 1536 := (i 1).isLt; show (((i 0).val * 1536 + (i 1).val) / 1536 * 96 + ((i 0).val * 1536 + (i 1).val) / 16 % 96) * 16 + ((i 0).val * 1536 + (i 1).val) % 16 = (i 0).val * 1536 + (i 1).val; omega)

-- %40 = stablehlo.dot_general %arg0, %39, contracting_dims = [2] x [1], precision = [DEFAULT, DEFAULT] : (tensor<16x2048x1536xbf16>, tensor<8960x1536xbf16>) -> tensor<16x2048x8960xf32>
def val_main_v40 (x0 : (⟨S16x2048x1536, .bf16⟩ : BufTy).Contents (Elt F)) (r0 : (⟨S8960x96, .bf16⟩ : BufTy).Contents (Elt F)) (e0 : (⟨S8960x1536, .i32⟩ : BufTy).Contents (Elt F)) : (⟨S16x2048x8960, .f32⟩ : BufTy).Contents (Elt F) :=
  Host.dotGeneral dot_S16x2048x1536_S8960x1536_S16x2048x8960_2_1_01_0_n_n none (x0) (val_main_v39 (F := F) r0 e0)
theorem lhs_main_v40_0 (i : S16x2048x8960.Idx) (q : dot_S16x2048x1536_S8960x1536_S16x2048x8960_2_1_01_0_n_n.contr.Idx) :
    (dot_S16x2048x1536_S8960x1536_S16x2048x8960_2_1_01_0_n_n.lhsIdx i q 0).val = (i 0).val := by
  unfold DotDims.lhsIdx
  rw [dif_neg (show ¬(0 : Fin S16x2048x1536.rank) ∈ dot_S16x2048x1536_S8960x1536_S16x2048x8960_2_1_01_0_n_n.lhsBatch by decide), dif_pos (show (0 : Fin S16x2048x1536.rank) ∈ dot_S16x2048x1536_S8960x1536_S16x2048x8960_2_1_01_0_n_n.lhsNonContracting by decide)]
  rfl
theorem lhs_main_v40_1 (i : S16x2048x8960.Idx) (q : dot_S16x2048x1536_S8960x1536_S16x2048x8960_2_1_01_0_n_n.contr.Idx) :
    (dot_S16x2048x1536_S8960x1536_S16x2048x8960_2_1_01_0_n_n.lhsIdx i q 1).val = (i 1).val := by
  unfold DotDims.lhsIdx
  rw [dif_neg (show ¬(1 : Fin S16x2048x1536.rank) ∈ dot_S16x2048x1536_S8960x1536_S16x2048x8960_2_1_01_0_n_n.lhsBatch by decide), dif_pos (show (1 : Fin S16x2048x1536.rank) ∈ dot_S16x2048x1536_S8960x1536_S16x2048x8960_2_1_01_0_n_n.lhsNonContracting by decide)]
  rfl
theorem lhs_main_v40_2 (i : S16x2048x8960.Idx) (q : dot_S16x2048x1536_S8960x1536_S16x2048x8960_2_1_01_0_n_n.contr.Idx) :
    (dot_S16x2048x1536_S8960x1536_S16x2048x8960_2_1_01_0_n_n.lhsIdx i q 2).val = (q ⟨0, by decide⟩).val :=
  dot_S16x2048x1536_S8960x1536_S16x2048x8960_2_1_01_0_n_n.lhsIdx_val_of_single rfl i q
theorem rhs_main_v40_0 (i : S16x2048x8960.Idx) (q : dot_S16x2048x1536_S8960x1536_S16x2048x8960_2_1_01_0_n_n.contr.Idx) :
    (dot_S16x2048x1536_S8960x1536_S16x2048x8960_2_1_01_0_n_n.rhsIdx i q 0).val = (i 2).val := by
  unfold DotDims.rhsIdx
  rw [dif_neg (show ¬(0 : Fin S8960x1536.rank) ∈ dot_S16x2048x1536_S8960x1536_S16x2048x8960_2_1_01_0_n_n.rhsBatch by decide), dif_pos (show (0 : Fin S8960x1536.rank) ∈ dot_S16x2048x1536_S8960x1536_S16x2048x8960_2_1_01_0_n_n.rhsNonContracting by decide)]
  rfl
theorem rhs_main_v40_1 (i : S16x2048x8960.Idx) (q : dot_S16x2048x1536_S8960x1536_S16x2048x8960_2_1_01_0_n_n.contr.Idx) :
    (dot_S16x2048x1536_S8960x1536_S16x2048x8960_2_1_01_0_n_n.rhsIdx i q 1).val = (q ⟨0, by decide⟩).val :=
  dot_S16x2048x1536_S8960x1536_S16x2048x8960_2_1_01_0_n_n.rhsIdx_val_of_single rfl i q
abbrev lidx_main_v40 (i : S16x2048x8960.Idx) (k : Fin 1536) : S16x2048x1536.Idx := fun a => match a with
  | ⟨0, _⟩ => ⟨(i 0).val, (i 0).isLt⟩
  | ⟨1, _⟩ => ⟨(i 1).val, (i 1).isLt⟩
  | ⟨2, _⟩ => ⟨k.val, k.isLt⟩
abbrev ridx_main_v40 (i : S16x2048x8960.Idx) (k : Fin 1536) : S8960x1536.Idx := fun a => match a with
  | ⟨0, _⟩ => ⟨(i 2).val, (i 2).isLt⟩
  | ⟨1, _⟩ => ⟨k.val, k.isLt⟩
/-- Stated at `F := Ideal`, where the host's `dot_general` is this sum; at a bit-exact instance it is an opaque function of its operands. -/
theorem val_main_v40_apply (x0 : (⟨S16x2048x1536, .bf16⟩ : BufTy).Contents (Elt Ideal)) (r0 : (⟨S8960x96, .bf16⟩ : BufTy).Contents (Elt Ideal)) (e0 : (⟨S8960x1536, .i32⟩ : BufTy).Contents (Elt Ideal)) (i : S16x2048x8960.Idx) :
    val_main_v40 (F := Ideal) x0 r0 e0 i = ∑ k : Fin 1536, x0 (lidx_main_v40 i k) * (val_main_v39 (F := Ideal) r0 e0) (ridx_main_v40 i k) := by
  unfold val_main_v40
  generalize val_main_v39 (F := Ideal) r0 e0 = y0
  simp only [Host.dotGeneral]
  rw [Ideal.dotGeneral_apply, ← Equiv.sum_comp (ValueIdx.contrEquiv1 dot_S16x2048x1536_S8960x1536_S16x2048x8960_2_1_01_0_n_n 1536 rfl rfl).symm]
  refine Finset.sum_congr rfl fun k _ => ?_
  have hk := ValueIdx.contrEquiv1_symm_val dot_S16x2048x1536_S8960x1536_S16x2048x8960_2_1_01_0_n_n 1536 rfl rfl k
  have el : dot_S16x2048x1536_S8960x1536_S16x2048x8960_2_1_01_0_n_n.lhsIdx i ((ValueIdx.contrEquiv1 dot_S16x2048x1536_S8960x1536_S16x2048x8960_2_1_01_0_n_n 1536 rfl rfl).symm k) = lidx_main_v40 i k := funext fun a => Fin.ext (by
    match a with
    | ⟨0, _⟩ => exact lhs_main_v40_0 _ _
    | ⟨1, _⟩ => exact lhs_main_v40_1 _ _
    | ⟨2, _⟩ => exact (lhs_main_v40_2 _ _).trans hk)
  have er : dot_S16x2048x1536_S8960x1536_S16x2048x8960_2_1_01_0_n_n.rhsIdx i ((ValueIdx.contrEquiv1 dot_S16x2048x1536_S8960x1536_S16x2048x8960_2_1_01_0_n_n 1536 rfl rfl).symm k) = ridx_main_v40 i k := funext fun a => Fin.ext (by
    match a with
    | ⟨0, _⟩ => exact rhs_main_v40_0 _ _
    | ⟨1, _⟩ => exact (rhs_main_v40_1 _ _).trans hk)
  rw [el, er]

-- %41 = stablehlo.reshape %arg3 : (tensor<1xf32>) -> tensor<f32>
def val_main_v41 (x3 : (⟨S1, .f32⟩ : BufTy).Contents (Elt F)) : (⟨S_, .f32⟩ : BufTy).Contents (Elt F) :=
  shapeCast _ (x3) shapeCasts_S1_S_

-- %42 = stablehlo.broadcast_in_dim %41, dims = [] : (tensor<f32>) -> tensor<16x2048x8960xf32>
def val_main_v42 (x3 : (⟨S1, .f32⟩ : BufTy).Contents (Elt F)) : (⟨S16x2048x8960, .f32⟩ : BufTy).Contents (Elt F) :=
  broadcastInDim S16x2048x8960 ![] bcast_S_S16x2048x8960 (val_main_v41 (F := F) x3)
abbrev idx_main_v42 (i : S16x2048x8960.Idx) : S_.Idx := fun a => a.elim0
theorem val_main_v42_apply (x3 : (⟨S1, .f32⟩ : BufTy).Contents (Elt F)) (i : S16x2048x8960.Idx) :
    val_main_v42 (F := F) x3 i = val_main_v41 (F := F) x3 (idx_main_v42 i) := by
  unfold val_main_v42
  generalize val_main_v41 (F := F) x3 = y
  exact broadcastInDim_apply _ bcast_S_S16x2048x8960 y i (idx_main_v42 i) (fun a => a.elim0)

-- %43 = stablehlo.multiply %40, %42 : tensor<16x2048x8960xf32>
def val_main_v43 (x0 : (⟨S16x2048x1536, .bf16⟩ : BufTy).Contents (Elt F)) (x3 : (⟨S1, .f32⟩ : BufTy).Contents (Elt F)) (r0 : (⟨S8960x96, .bf16⟩ : BufTy).Contents (Elt F)) (e0 : (⟨S8960x1536, .i32⟩ : BufTy).Contents (Elt F)) : (⟨S16x2048x8960, .f32⟩ : BufTy).Contents (Elt F) :=
  mulf (val_main_v40 (F := F) x0 r0 e0) (val_main_v42 (F := F) x3)
theorem val_main_v43_apply (x0 : (⟨S16x2048x1536, .bf16⟩ : BufTy).Contents (Elt F)) (x3 : (⟨S1, .f32⟩ : BufTy).Contents (Elt F)) (r0 : (⟨S8960x96, .bf16⟩ : BufTy).Contents (Elt F)) (e0 : (⟨S8960x1536, .i32⟩ : BufTy).Contents (Elt F)) (i : S16x2048x8960.Idx) :
    val_main_v43 (F := F) x0 x3 r0 e0 i = FloatOps.mulf (val_main_v40 (F := F) x0 r0 e0 i) (val_main_v42 (F := F) x3 i) := rfl

-- %44 = stablehlo.convert %43 : (tensor<16x2048x8960xf32>) -> tensor<16x2048x8960xbf16>
def val_main_v44 (x0 : (⟨S16x2048x1536, .bf16⟩ : BufTy).Contents (Elt F)) (x3 : (⟨S1, .f32⟩ : BufTy).Contents (Elt F)) (r0 : (⟨S8960x96, .bf16⟩ : BufTy).Contents (Elt F)) (e0 : (⟨S8960x1536, .i32⟩ : BufTy).Contents (Elt F)) : (⟨S16x2048x8960, .bf16⟩ : BufTy).Contents (Elt F) :=
  truncf .bf16 (val_main_v43 (F := F) x0 x3 r0 e0) bitsLt_bf16_f32
theorem val_main_v44_apply (x0 : (⟨S16x2048x1536, .bf16⟩ : BufTy).Contents (Elt F)) (x3 : (⟨S1, .f32⟩ : BufTy).Contents (Elt F)) (r0 : (⟨S8960x96, .bf16⟩ : BufTy).Contents (Elt F)) (e0 : (⟨S8960x1536, .i32⟩ : BufTy).Contents (Elt F)) (i : S16x2048x8960.Idx) :
    val_main_v44 (F := F) x0 x3 r0 e0 i = FloatOps.truncf .bf16 bitsLt_bf16_f32 (val_main_v43 (F := F) x0 x3 r0 e0 i) := rfl

-- %45 = stablehlo.reshape %44 : (tensor<16x2048x8960xbf16>) -> tensor<32768x8960xbf16>
def val_main_v45 (x0 : (⟨S16x2048x1536, .bf16⟩ : BufTy).Contents (Elt F)) (x3 : (⟨S1, .f32⟩ : BufTy).Contents (Elt F)) (r0 : (⟨S8960x96, .bf16⟩ : BufTy).Contents (Elt F)) (e0 : (⟨S8960x1536, .i32⟩ : BufTy).Contents (Elt F)) : (⟨S32768x8960, .bf16⟩ : BufTy).Contents (Elt F) :=
  shapeCast _ (val_main_v44 (F := F) x0 x3 r0 e0) shapeCasts_S16x2048x8960_S32768x8960
set_option backward.proofsInPublic true in
abbrev idx_main_v45 (i : S32768x8960.Idx) : S16x2048x8960.Idx := fun a => match a with
  | ⟨0, _⟩ => ⟨((i 0).val * 8960 + (i 1).val) / 18350080, by have h0 : (i 0).val < 32768 := (i 0).isLt; have h1 : (i 1).val < 8960 := (i 1).isLt; show ((i 0).val * 8960 + (i 1).val) / 18350080 < 16; omega⟩
  | ⟨1, _⟩ => ⟨((i 0).val * 8960 + (i 1).val) / 8960 % 2048, by have h0 : (i 0).val < 32768 := (i 0).isLt; have h1 : (i 1).val < 8960 := (i 1).isLt; show ((i 0).val * 8960 + (i 1).val) / 8960 % 2048 < 2048; omega⟩
  | ⟨2, _⟩ => ⟨((i 0).val * 8960 + (i 1).val) % 8960, by have h0 : (i 0).val < 32768 := (i 0).isLt; have h1 : (i 1).val < 8960 := (i 1).isLt; show ((i 0).val * 8960 + (i 1).val) % 8960 < 8960; omega⟩
theorem val_main_v45_apply (x0 : (⟨S16x2048x1536, .bf16⟩ : BufTy).Contents (Elt F)) (x3 : (⟨S1, .f32⟩ : BufTy).Contents (Elt F)) (r0 : (⟨S8960x96, .bf16⟩ : BufTy).Contents (Elt F)) (e0 : (⟨S8960x1536, .i32⟩ : BufTy).Contents (Elt F)) (i : S32768x8960.Idx) :
    val_main_v45 (F := F) x0 x3 r0 e0 i = val_main_v44 (F := F) x0 x3 r0 e0 (idx_main_v45 i) := by
  unfold val_main_v45
  generalize val_main_v44 (F := F) x0 x3 r0 e0 = y
  exact shapeCast_apply y shapeCasts_S16x2048x8960_S32768x8960 i (idx_main_v45 i)
    (by rewrite [Shape.rowMajor_val_three, Shape.rowMajor_val_two]; have h0 : (i 0).val < 32768 := (i 0).isLt; have h1 : (i 1).val < 8960 := (i 1).isLt; show (((i 0).val * 8960 + (i 1).val) / 18350080 * 2048 + ((i 0).val * 8960 + (i 1).val) / 8960 % 2048) * 8960 + ((i 0).val * 8960 + (i 1).val) % 8960 = (i 0).val * 8960 + (i 1).val; omega)

/-- The term the Run module states for `main_v45` over any contents `V0` is the stage. -/
theorem val_main_v45_eq (V0 : Valuation τ sig (Elt F)) :
    shapeCast _ (truncf .bf16 (mulf (Host.dotGeneral dot_S16x2048x1536_S8960x1536_S16x2048x8960_2_1_01_0_n_n none (V0 (Proc.devRef .tc main_arg0)) (shapeCast _ (mulf (shapeCast _ (select (cmpi .ne (andi (V0 (Proc.devRef .tc main_v8)) (broadcastInDim S8960x1536 ![] bcast_S_S8960x1536 (constantI S_ 32 8#32))) (broadcastInDim S8960x1536 ![] bcast_S_S8960x1536 (constantI S_ 32 0#32))) (Host.negf (select (cmpi .ne (andi (V0 (Proc.devRef .tc main_v8)) (broadcastInDim S8960x1536 ![] bcast_S_S8960x1536 (constantI S_ 32 4#32))) (broadcastInDim S8960x1536 ![] bcast_S_S8960x1536 (constantI S_ 32 0#32))) (select (cmpi .ne (andi (V0 (Proc.devRef .tc main_v8)) (broadcastInDim S8960x1536 ![] bcast_S_S8960x1536 (constantI S_ 32 2#32))) (broadcastInDim S8960x1536 ![] bcast_S_S8960x1536 (constantI S_ 32 0#32))) (select (cmpi .ne (andi (V0 (Proc.devRef .tc main_v8)) (broadcastInDim S8960x1536 ![] bcast_S_S8960x1536 (constantI S_ 32 1#32))) (broadcastInDim S8960x1536 ![] bcast_S_S8960x1536 (constantI S_ 32 0#32))) (broadcastInDim S8960x1536 ![] bcast_S_S8960x1536 (constant S_ .bf16 0x40C0#16)) (broadcastInDim S8960x1536 ![] bcast_S_S8960x1536 (constant S_ .bf16 0x4080#16))) (select (cmpi .ne (andi (V0 (Proc.devRef .tc main_v8)) (broadcastInDim S8960x1536 ![] bcast_S_S8960x1536 (constantI S_ 32 1#32))) (broadcastInDim S8960x1536 ![] bcast_S_S8960x1536 (constantI S_ 32 0#32))) (broadcastInDim S8960x1536 ![] bcast_S_S8960x1536 (constant S_ .bf16 0x4040#16)) (broadcastInDim S8960x1536 ![] bcast_S_S8960x1536 (constant S_ .bf16 0x4000#16)))) (select (cmpi .ne (andi (V0 (Proc.devRef .tc main_v8)) (broadcastInDim S8960x1536 ![] bcast_S_S8960x1536 (constantI S_ 32 2#32))) (broadcastInDim S8960x1536 ![] bcast_S_S8960x1536 (constantI S_ 32 0#32))) (select (cmpi .ne (andi (V0 (Proc.devRef .tc main_v8)) (broadcastInDim S8960x1536 ![] bcast_S_S8960x1536 (constantI S_ 32 1#32))) (broadcastInDim S8960x1536 ![] bcast_S_S8960x1536 (constantI S_ 32 0#32))) (broadcastInDim S8960x1536 ![] bcast_S_S8960x1536 (constant S_ .bf16 0x3FC0#16)) (broadcastInDim S8960x1536 ![] bcast_S_S8960x1536 (constant S_ .bf16 0x3F80#16))) (select (cmpi .ne (andi (V0 (Proc.devRef .tc main_v8)) (broadcastInDim S8960x1536 ![] bcast_S_S8960x1536 (constantI S_ 32 1#32))) (broadcastInDim S8960x1536 ![] bcast_S_S8960x1536 (constantI S_ 32 0#32))) (broadcastInDim S8960x1536 ![] bcast_S_S8960x1536 (constant S_ .bf16 0x3F00#16)) (broadcastInDim S8960x1536 ![] bcast_S_S8960x1536 (constant S_ .bf16 0x0000#16)))))) (select (cmpi .ne (andi (V0 (Proc.devRef .tc main_v8)) (broadcastInDim S8960x1536 ![] bcast_S_S8960x1536 (constantI S_ 32 4#32))) (broadcastInDim S8960x1536 ![] bcast_S_S8960x1536 (constantI S_ 32 0#32))) (select (cmpi .ne (andi (V0 (Proc.devRef .tc main_v8)) (broadcastInDim S8960x1536 ![] bcast_S_S8960x1536 (constantI S_ 32 2#32))) (broadcastInDim S8960x1536 ![] bcast_S_S8960x1536 (constantI S_ 32 0#32))) (select (cmpi .ne (andi (V0 (Proc.devRef .tc main_v8)) (broadcastInDim S8960x1536 ![] bcast_S_S8960x1536 (constantI S_ 32 1#32))) (broadcastInDim S8960x1536 ![] bcast_S_S8960x1536 (constantI S_ 32 0#32))) (broadcastInDim S8960x1536 ![] bcast_S_S8960x1536 (constant S_ .bf16 0x40C0#16)) (broadcastInDim S8960x1536 ![] bcast_S_S8960x1536 (constant S_ .bf16 0x4080#16))) (select (cmpi .ne (andi (V0 (Proc.devRef .tc main_v8)) (broadcastInDim S8960x1536 ![] bcast_S_S8960x1536 (constantI S_ 32 1#32))) (broadcastInDim S8960x1536 ![] bcast_S_S8960x1536 (constantI S_ 32 0#32))) (broadcastInDim S8960x1536 ![] bcast_S_S8960x1536 (constant S_ .bf16 0x4040#16)) (broadcastInDim S8960x1536 ![] bcast_S_S8960x1536 (constant S_ .bf16 0x4000#16)))) (select (cmpi .ne (andi (V0 (Proc.devRef .tc main_v8)) (broadcastInDim S8960x1536 ![] bcast_S_S8960x1536 (constantI S_ 32 2#32))) (broadcastInDim S8960x1536 ![] bcast_S_S8960x1536 (constantI S_ 32 0#32))) (select (cmpi .ne (andi (V0 (Proc.devRef .tc main_v8)) (broadcastInDim S8960x1536 ![] bcast_S_S8960x1536 (constantI S_ 32 1#32))) (broadcastInDim S8960x1536 ![] bcast_S_S8960x1536 (constantI S_ 32 0#32))) (broadcastInDim S8960x1536 ![] bcast_S_S8960x1536 (constant S_ .bf16 0x3FC0#16)) (broadcastInDim S8960x1536 ![] bcast_S_S8960x1536 (constant S_ .bf16 0x3F80#16))) (select (cmpi .ne (andi (V0 (Proc.devRef .tc main_v8)) (broadcastInDim S8960x1536 ![] bcast_S_S8960x1536 (constantI S_ 32 1#32))) (broadcastInDim S8960x1536 ![] bcast_S_S8960x1536 (constantI S_ 32 0#32))) (broadcastInDim S8960x1536 ![] bcast_S_S8960x1536 (constant S_ .bf16 0x3F00#16)) (broadcastInDim S8960x1536 ![] bcast_S_S8960x1536 (constant S_ .bf16 0x0000#16)))))) shapeCasts_S8960x1536_S8960x96x16) (broadcastInDim S8960x96x16 ![0, 1, 2] bcast_S8960x96x1_S8960x96x16_0_1_2 (broadcastInDim S8960x96x1 ![0, 1] bcast_S8960x96_S8960x96x1_0_1 (V0 (Proc.devRef .tc main_v9))))) shapeCasts_S8960x96x16_S8960x1536)) (broadcastInDim S16x2048x8960 ![] bcast_S_S16x2048x8960 (shapeCast _ (V0 (Proc.devRef .tc main_arg3)) shapeCasts_S1_S_))) bitsLt_bf16_f32) shapeCasts_S16x2048x8960_S32768x8960
      = val_main_v45 (F := F) (V0 (Proc.devRef .tc main_arg0)) (V0 (Proc.devRef .tc main_arg3)) (V0 (Proc.devRef .tc main_v9)) (V0 (Proc.devRef .tc main_v8)) := rfl

end Cert.ReferenceIdeal.Read

end
-- ==== Proof.RefRun.lean ====
/-
  The run of the reference: its result buffer ends with the value its operations compute of the arguments, of the unpacked
  codes and of the widened scales.
-/
module

public import proofs.«01_k».proof.Proof.Gen.ReferenceIdeal
public import proofs.«01_k».proof.Proof.Gen.ReferenceIdeal.Frame
public import proofs.«01_k».proof.Proof.RefStages
public import Idealize.ShloMosaic.Lib.StableHlo.Run
public import Idealize.ShloMosaic.Lib.Pipeline.FrameSuffix

@[expose] public section

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

variable (m : (ℓ : Loc nD τ sig) → Buf (Elt F) ℓ)

/-- Core `c`'s TensorCore buffer contents when the region is left: the arrays of its pipeline at what the proof data give
    after the last point, every other buffer as the region found it. -/
abbrev exitV (c : Dev nD) : Valuation τ sig (Elt F) :=
  Pipeline.withArrays spec0 c (Gen.V0 m c) fun w => (Gen.dats m 0 c).arrAt w cfg0.N

/-- What the kernel region leaves in its result array `main_v9` (window 1's): not opened here. -/
def reg_main_v9 (c : Dev nD) : Buf (Elt F) ((c.tc : Thread nD τ).loc main_v9) := (Gen.dats m 0 c).arrAt 1 cfg0.N

/-- The exit contents at argument `main_arg0`: as launched. -/
theorem exit_main_arg0 (c : Dev nD) : exitV m c (Proc.devRef .tc main_arg0) = m ((c.tc : Thread nD τ).loc main_arg0) :=
  (Pipeline.withArrays_of_ne _ c (Gen.V0 m c) _ main_arg0 (by exact (by decide : ∀ w, Pipeline.arrRef spec0 w ≠ main_arg0))).trans (Gen.V_main_arg0 m c)
/-- The exit contents at argument `main_arg3`: as launched. -/
theorem exit_main_arg3 (c : Dev nD) : exitV m c (Proc.devRef .tc main_arg3) = m ((c.tc : Thread nD τ).loc main_arg3) :=
  (Pipeline.withArrays_of_ne _ c (Gen.V0 m c) _ main_arg3 (by exact (by decide : ∀ w, Pipeline.arrRef spec0 w ≠ main_arg3))).trans (Gen.V_main_arg3 m c)
set_option maxHeartbeats 1100000 in
/-- The exit contents at `main_v8`, computed before the region: its composed term of the arguments' launch contents. -/
theorem exit_main_v8 (c : Dev nD) : exitV m c (Proc.devRef .tc main_v8) = shapeCast _ (concatenate S8960x768x2 2 [⟨S8960x768x1, (broadcastInDim S8960x768x1 ![0, 1] bcast_S8960x768_S8960x768x1_0_1 (andi (extui 32 (m ((c.tc : Thread nD τ).loc main_arg1)) natLt_8_32) (broadcastInDim S8960x768 ![] bcast_S_S8960x768 (constantI S_ 32 15#32))))⟩, ⟨S8960x768x1, (broadcastInDim S8960x768x1 ![0, 1] bcast_S8960x768_S8960x768x1_0_1 (Host.shrsi (extui 32 (m ((c.tc : Thread nD τ).loc main_arg1)) natLt_8_32) (broadcastInDim S8960x768 ![] bcast_S_S8960x768 (constantI S_ 32 4#32))))⟩] concatenates_S8960x768x1_S8960x768x1_S8960x768x2_d2) shapeCasts_S8960x768x2_S8960x1536 :=
  (Pipeline.withArrays_of_ne _ c (Gen.V0 m c) _ main_v8 (by exact (by decide : ∀ w, Pipeline.arrRef spec0 w ≠ main_v8))).trans (by
    show Gen.V0 m c (Proc.devRef .tc main_v8) = _
    simp only [Gen.V0, Gen.hostOps0, List.flatten_cons, List.flatten_nil, List.append_nil, List.cons_append, List.nil_append]
    after_results <;> rfl)
/-- The exit contents at the region's result array `main_v9`. -/
theorem exit_main_v9 (c : Dev nD) : exitV m c (Proc.devRef .tc main_v9) = reg_main_v9 m c :=
  Pipeline.withArrays_arr spec0 Gen.launch0.win.arr_inj c (Gen.V0 m c) _ 1

set_option maxRecDepth 8192 in
set_option maxHeartbeats 2000000 in
/-- The later operations from any contents `V0`, read at result `main_v45`. -/
theorem tail_main_v45 (V0 : Valuation τ sig (Elt F)) :
    after (List.flatten [Gen.hostOps1, Gen.hostOps1_1, Gen.hostOps1_2, Gen.hostOps1_3, Gen.hostOps1_4, Gen.hostOps1_5, Gen.hostOps1_6, Gen.hostOps1_7, Gen.hostOps1_8, Gen.hostOps1_9, Gen.hostOps1_10, Gen.hostOps1_11, Gen.hostOps1_12, Gen.hostOps1_13]) V0 (Proc.devRef .tc main_v45) = shapeCast _ (truncf .bf16 (mulf (Host.dotGeneral dot_S16x2048x1536_S8960x1536_S16x2048x8960_2_1_01_0_n_n none (V0 (Proc.devRef .tc main_arg0)) (shapeCast _ (mulf (shapeCast _ (select (cmpi .ne (andi (V0 (Proc.devRef .tc main_v8)) (broadcastInDim S8960x1536 ![] bcast_S_S8960x1536 (constantI S_ 32 8#32))) (broadcastInDim S8960x1536 ![] bcast_S_S8960x1536 (constantI S_ 32 0#32))) (Host.negf (select (cmpi .ne (andi (V0 (Proc.devRef .tc main_v8)) (broadcastInDim S8960x1536 ![] bcast_S_S8960x1536 (constantI S_ 32 4#32))) (broadcastInDim S8960x1536 ![] bcast_S_S8960x1536 (constantI S_ 32 0#32))) (select (cmpi .ne (andi (V0 (Proc.devRef .tc main_v8)) (broadcastInDim S8960x1536 ![] bcast_S_S8960x1536 (constantI S_ 32 2#32))) (broadcastInDim S8960x1536 ![] bcast_S_S8960x1536 (constantI S_ 32 0#32))) (select (cmpi .ne (andi (V0 (Proc.devRef .tc main_v8)) (broadcastInDim S8960x1536 ![] bcast_S_S8960x1536 (constantI S_ 32 1#32))) (broadcastInDim S8960x1536 ![] bcast_S_S8960x1536 (constantI S_ 32 0#32))) (broadcastInDim S8960x1536 ![] bcast_S_S8960x1536 (constant S_ .bf16 0x40C0#16)) (broadcastInDim S8960x1536 ![] bcast_S_S8960x1536 (constant S_ .bf16 0x4080#16))) (select (cmpi .ne (andi (V0 (Proc.devRef .tc main_v8)) (broadcastInDim S8960x1536 ![] bcast_S_S8960x1536 (constantI S_ 32 1#32))) (broadcastInDim S8960x1536 ![] bcast_S_S8960x1536 (constantI S_ 32 0#32))) (broadcastInDim S8960x1536 ![] bcast_S_S8960x1536 (constant S_ .bf16 0x4040#16)) (broadcastInDim S8960x1536 ![] bcast_S_S8960x1536 (constant S_ .bf16 0x4000#16)))) (select (cmpi .ne (andi (V0 (Proc.devRef .tc main_v8)) (broadcastInDim S8960x1536 ![] bcast_S_S8960x1536 (constantI S_ 32 2#32))) (broadcastInDim S8960x1536 ![] bcast_S_S8960x1536 (constantI S_ 32 0#32))) (select (cmpi .ne (andi (V0 (Proc.devRef .tc main_v8)) (broadcastInDim S8960x1536 ![] bcast_S_S8960x1536 (constantI S_ 32 1#32))) (broadcastInDim S8960x1536 ![] bcast_S_S8960x1536 (constantI S_ 32 0#32))) (broadcastInDim S8960x1536 ![] bcast_S_S8960x1536 (constant S_ .bf16 0x3FC0#16)) (broadcastInDim S8960x1536 ![] bcast_S_S8960x1536 (constant S_ .bf16 0x3F80#16))) (select (cmpi .ne (andi (V0 (Proc.devRef .tc main_v8)) (broadcastInDim S8960x1536 ![] bcast_S_S8960x1536 (constantI S_ 32 1#32))) (broadcastInDim S8960x1536 ![] bcast_S_S8960x1536 (constantI S_ 32 0#32))) (broadcastInDim S8960x1536 ![] bcast_S_S8960x1536 (constant S_ .bf16 0x3F00#16)) (broadcastInDim S8960x1536 ![] bcast_S_S8960x1536 (constant S_ .bf16 0x0000#16)))))) (select (cmpi .ne (andi (V0 (Proc.devRef .tc main_v8)) (broadcastInDim S8960x1536 ![] bcast_S_S8960x1536 (constantI S_ 32 4#32))) (broadcastInDim S8960x1536 ![] bcast_S_S8960x1536 (constantI S_ 32 0#32))) (select (cmpi .ne (andi (V0 (Proc.devRef .tc main_v8)) (broadcastInDim S8960x1536 ![] bcast_S_S8960x1536 (constantI S_ 32 2#32))) (broadcastInDim S8960x1536 ![] bcast_S_S8960x1536 (constantI S_ 32 0#32))) (select (cmpi .ne (andi (V0 (Proc.devRef .tc main_v8)) (broadcastInDim S8960x1536 ![] bcast_S_S8960x1536 (constantI S_ 32 1#32))) (broadcastInDim S8960x1536 ![] bcast_S_S8960x1536 (constantI S_ 32 0#32))) (broadcastInDim S8960x1536 ![] bcast_S_S8960x1536 (constant S_ .bf16 0x40C0#16)) (broadcastInDim S8960x1536 ![] bcast_S_S8960x1536 (constant S_ .bf16 0x4080#16))) (select (cmpi .ne (andi (V0 (Proc.devRef .tc main_v8)) (broadcastInDim S8960x1536 ![] bcast_S_S8960x1536 (constantI S_ 32 1#32))) (broadcastInDim S8960x1536 ![] bcast_S_S8960x1536 (constantI S_ 32 0#32))) (broadcastInDim S8960x1536 ![] bcast_S_S8960x1536 (constant S_ .bf16 0x4040#16)) (broadcastInDim S8960x1536 ![] bcast_S_S8960x1536 (constant S_ .bf16 0x4000#16)))) (select (cmpi .ne (andi (V0 (Proc.devRef .tc main_v8)) (broadcastInDim S8960x1536 ![] bcast_S_S8960x1536 (constantI S_ 32 2#32))) (broadcastInDim S8960x1536 ![] bcast_S_S8960x1536 (constantI S_ 32 0#32))) (select (cmpi .ne (andi (V0 (Proc.devRef .tc main_v8)) (broadcastInDim S8960x1536 ![] bcast_S_S8960x1536 (constantI S_ 32 1#32))) (broadcastInDim S8960x1536 ![] bcast_S_S8960x1536 (constantI S_ 32 0#32))) (broadcastInDim S8960x1536 ![] bcast_S_S8960x1536 (constant S_ .bf16 0x3FC0#16)) (broadcastInDim S8960x1536 ![] bcast_S_S8960x1536 (constant S_ .bf16 0x3F80#16))) (select (cmpi .ne (andi (V0 (Proc.devRef .tc main_v8)) (broadcastInDim S8960x1536 ![] bcast_S_S8960x1536 (constantI S_ 32 1#32))) (broadcastInDim S8960x1536 ![] bcast_S_S8960x1536 (constantI S_ 32 0#32))) (broadcastInDim S8960x1536 ![] bcast_S_S8960x1536 (constant S_ .bf16 0x3F00#16)) (broadcastInDim S8960x1536 ![] bcast_S_S8960x1536 (constant S_ .bf16 0x0000#16)))))) shapeCasts_S8960x1536_S8960x96x16) (broadcastInDim S8960x96x16 ![0, 1, 2] bcast_S8960x96x1_S8960x96x16_0_1_2 (broadcastInDim S8960x96x1 ![0, 1] bcast_S8960x96_S8960x96x1_0_1 (V0 (Proc.devRef .tc main_v9))))) shapeCasts_S8960x96x16_S8960x1536)) (broadcastInDim S16x2048x8960 ![] bcast_S_S16x2048x8960 (shapeCast _ (V0 (Proc.devRef .tc main_arg3)) shapeCasts_S1_S_))) bitsLt_bf16_f32) shapeCasts_S16x2048x8960_S32768x8960 := by
  simp only [Gen.hostOps1, Gen.hostOps1_1, Gen.hostOps1_2, Gen.hostOps1_3, Gen.hostOps1_4, Gen.hostOps1_5, Gen.hostOps1_6, Gen.hostOps1_7, Gen.hostOps1_8, Gen.hostOps1_9, Gen.hostOps1_10, Gen.hostOps1_11, Gen.hostOps1_12, Gen.hostOps1_13, TRef.ternary, TRef.unary, TRef.toBuf, TRef.ofBuf, cast_eq, List.flatten_cons, List.flatten_nil, List.append_nil, List.cons_append, List.nil_append]
  after_results_simp <;> rfl
/-- The unpacked codes: each byte's low four bits, then its high four. -/
def codes (c : Dev nD) : (⟨S8960x1536, .i32⟩ : BufTy).Contents (Elt F) :=
  shapeCast _ (concatenate S8960x768x2 2 [⟨S8960x768x1, (broadcastInDim S8960x768x1 ![0, 1] bcast_S8960x768_S8960x768x1_0_1 (andi (extui 32 (m ((c.tc : Thread nD τ).loc main_arg1)) natLt_8_32) (broadcastInDim S8960x768 ![] bcast_S_S8960x768 (constantI S_ 32 15#32))))⟩, ⟨S8960x768x1, (broadcastInDim S8960x768x1 ![0, 1] bcast_S8960x768_S8960x768x1_0_1 (Host.shrsi (extui 32 (m ((c.tc : Thread nD τ).loc main_arg1)) natLt_8_32) (broadcastInDim S8960x768 ![] bcast_S_S8960x768 (constantI S_ 32 4#32))))⟩] concatenates_S8960x768x1_S8960x768x1_S8960x768x2_d2) shapeCasts_S8960x768x2_S8960x1536

/-- The exit contents at `main_v8`: the unpacked codes. -/
theorem exit_codes (c : Dev nD) : exitV m c (Proc.devRef .tc main_v8) = codes m c := exit_main_v8 m c

/-- The reference's result as a function of its arguments. -/
def result (c : Dev nD) : Buf (Elt F) ((c.tc : Thread nD τ).loc main_v45) :=
  Read.val_main_v45 (F := F) (m ((c.tc : Thread nD τ).loc main_arg0)) (m ((c.tc : Thread nD τ).loc main_arg3)) (reg_main_v9 m c) (codes m c)

/-- The result buffer after the later operations. -/
theorem fin_main_v45 (c : Dev nD) :
    Pipeline.afterTail₀ cfgs (Gen.dats m) 0 (Gen.V0 m) [Gen.hostOps1, Gen.hostOps1_1, Gen.hostOps1_2, Gen.hostOps1_3, Gen.hostOps1_4, Gen.hostOps1_5, Gen.hostOps1_6, Gen.hostOps1_7, Gen.hostOps1_8, Gen.hostOps1_9, Gen.hostOps1_10, Gen.hostOps1_11, Gen.hostOps1_12, Gen.hostOps1_13] c main_v45 = result m c := by
  unfold result
  rw [← exit_main_arg0 m c, ← exit_main_arg3 m c, ← exit_main_v9 m c, ← exit_codes m c]
  exact (tail_main_v45 (exitV m c)).trans (Read.val_main_v45_eq (exitV m c))

/-- On every device, for any float values, from any memory with zero counters: every weakly fair execution of
    @main terminates with each result at the later operations' composed term of the arguments and the region's
    outputs, and the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v45) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).2 main_v45 (Pipeline.mem_restRefs_of main_v45 (by decide) (by decide))).trans (fin_main_v45 m c),
      ((h c).2 main_arg0 (Pipeline.mem_restRefs_of main_arg0 (by decide) (by decide))).trans (Gen.W_main_arg0 m (Gen.dats m) c),
      ((h c).2 main_arg1 (Pipeline.mem_restRefs_of main_arg1 (by decide) (by decide))).trans (Gen.W_main_arg1 m (Gen.dats m) c),
      ((h c).1 0).trans (((Gen.dats m 0 c).arrAt_in 0 rfl _).trans ((Gen.A_eq m c 0).trans (Gen.V_main_arg2 m c))),
      ((h c).2 main_arg3 (Pipeline.mem_restRefs_of main_arg3 (by decide) (by decide))).trans (Gen.W_main_arg3 m (Gen.dats m) c)⟩) (Gen.run_main m ρ)

end Cert.ReferenceIdeal.Value

end
-- ==== Proof.Words.lean ====
/-
  The word arithmetic of the decode. A word holds four code bytes; after the nibble exchange each 4-bit code sits beside
  the code of the next row, so that one shift and one mask put the two codes into the two halves of the word.
-/
module

public import Idealize.ShloMosaic.Lib.BitcastPair

@[expose] public section

namespace Nvfp4

/-- The 4-bit code in half `h` of a byte: the low one (`h = 0`) or the high one (`h = 1`). -/
def nib (b : BitVec 8) (h : ℕ) : BitVec 4 := b.extractLsb' (4 * h) 4

/-- Four bytes in one word, the first lowest. -/
def pack (a b c d : BitVec 8) : BitVec 32 :=
  a.setWidth 32 ||| b.setWidth 32 <<< (8#32) ||| c.setWidth 32 <<< (16#32) ||| d.setWidth 32 <<< (24#32)

/-- The nibbles that differ from the one twelve bits up, among those to be exchanged. -/
def swapBits (t : BitVec 32) : BitVec 32 := (t ^^^ t >>> (12#32)) &&& 61680#32

/-- The word after the nibble exchange. -/
def exchanged (a b c d : BitVec 8) : BitVec 32 :=
  pack a b c d ^^^ swapBits (pack a b c d) ^^^ swapBits (pack a b c d) <<< (12#32)

/-- The magnitude bits of a code, at their place in a bf16 pattern. -/
def mag (n : BitVec 4) : BitVec 16 := (n.setWidth 16 &&& 7#16) <<< 6
/-- The sign bit of a code, at its place in a bf16 pattern. -/
def sgn (n : BitVec 4) : BitVec 16 := (n.setWidth 16 &&& 8#16) <<< 12

/-- The word with the given high and low halves. -/
def halves (hi lo : BitVec 16) : BitVec 32 := hi.setWidth 32 <<< (16#32) ||| lo.setWidth 32

/-- An exclusive or met twice is lost. -/
theorem xor_cancel : ∀ x y : Bool, (x ^^ (y ^^ x)) = y := by decide

/-- Two words that agree at each of the 32 bits are one. -/
theorem word_ext {x y : BitVec 32} (h : ∀ i : Fin 32, x.getLsbD i = y.getLsbD i) : x = y :=
  BitVec.eq_of_getLsbD_eq fun i hi => h ⟨i, hi⟩

/-- Slot 0: the magnitudes of the two codes of byte `a`. -/
theorem mag_0 (a b c d : BitVec 8) : exchanged a b c d <<< (6#32) &&& 29360576#32 = halves (mag (nib a 1)) (mag (nib a 0)) := by
  refine word_ext fun i => ?_
  fin_cases i <;> simp [exchanged, swapBits, pack, mag, nib, halves, xor_cancel]

/-- Slot 0: the signs of the two codes of byte `a`. -/
theorem sgn_0 (a b c d : BitVec 8) : exchanged a b c d <<< (12#32) &&& 2147516416#32 = halves (sgn (nib a 1)) (sgn (nib a 0)) := by
  refine word_ext fun i => ?_
  fin_cases i <;> simp [exchanged, swapBits, pack, sgn, nib, halves, xor_cancel]

/-- Slot 1: the magnitudes of the two codes of byte `c`. -/
theorem mag_1 (a b c d : BitVec 8) : exchanged a b c d <<< (2#32) &&& 29360576#32 = halves (mag (nib c 1)) (mag (nib c 0)) := by
  refine word_ext fun i => ?_
  fin_cases i <;> simp [exchanged, swapBits, pack, mag, nib, halves, xor_cancel]

/-- Slot 1: the signs of the two codes of byte `c`. -/
theorem sgn_1 (a b c d : BitVec 8) : exchanged a b c d <<< (8#32) &&& 2147516416#32 = halves (sgn (nib c 1)) (sgn (nib c 0)) := by
  refine word_ext fun i => ?_
  fin_cases i <;> simp [exchanged, swapBits, pack, sgn, nib, halves, xor_cancel]

/-- Slot 2: the magnitudes of the two codes of byte `b`. -/
theorem mag_2 (a b c d : BitVec 8) : exchanged a b c d >>> (2#32) &&& 29360576#32 = halves (mag (nib b 1)) (mag (nib b 0)) := by
  refine word_ext fun i => ?_
  fin_cases i <;> simp [exchanged, swapBits, pack, mag, nib, halves, xor_cancel]

/-- Slot 2: the signs of the two codes of byte `b`. -/
theorem sgn_2 (a b c d : BitVec 8) : exchanged a b c d <<< (4#32) &&& 2147516416#32 = halves (sgn (nib b 1)) (sgn (nib b 0)) := by
  refine word_ext fun i => ?_
  fin_cases i <;> simp [exchanged, swapBits, pack, sgn, nib, halves, xor_cancel]

/-- Slot 3: the magnitudes of the two codes of byte `d`. -/
theorem mag_3 (a b c d : BitVec 8) : exchanged a b c d >>> (6#32) &&& 29360576#32 = halves (mag (nib d 1)) (mag (nib d 0)) := by
  refine word_ext fun i => ?_
  fin_cases i <;> simp [exchanged, swapBits, pack, mag, nib, halves, xor_cancel]

/-- Slot 3: the signs of the two codes of byte `d`. -/
theorem sgn_3 (a b c d : BitVec 8) : exchanged a b c d  &&& 2147516416#32 = halves (sgn (nib d 1)) (sgn (nib d 0)) := by
  refine word_ext fun i => ?_
  fin_cases i <;> simp [exchanged, swapBits, pack, sgn, nib, halves, xor_cancel]

set_option maxRecDepth 8192 in
/-- Half `h` of the magnitude word after the exponent is added: the two halves do not carry into each other. -/
theorem mag_half : ∀ (n : Fin 2 → BitVec 4) (h : Fin 2),
    (halves (mag (n 1)) (mag (n 0)) + 1056980736#32).extractLsb' (16 * h.val) 16 = mag (n h) + 0x3F00#16 := by
  have key : ∀ p q : BitVec 4, ∀ h : Fin 2,
      (halves (mag q) (mag p) + 1056980736#32).extractLsb' (16 * h.val) 16 = mag (if h = 0 then p else q) + 0x3F00#16 := by decide
  intro n h
  rw [key]
  fin_cases h <;> rfl

set_option maxRecDepth 8192 in
/-- Half `h` of the sign word over the pattern of one. -/
theorem sgn_half : ∀ (n : Fin 2 → BitVec 4) (h : Fin 2),
    (1065369472#32 ||| halves (sgn (n 1)) (sgn (n 0))).extractLsb' (16 * h.val) 16 = 0x3F80#16 ||| sgn (n h) := by
  have key : ∀ p q : BitVec 4, ∀ h : Fin 2,
      (1065369472#32 ||| halves (sgn q) (sgn p)).extractLsb' (16 * h.val) 16 = 0x3F80#16 ||| sgn (if h = 0 then p else q) := by decide
  intro n h
  rw [key]
  fin_cases h <;> rfl

end Nvfp4
-- ==== Proof.Values.lean ====
/-
  What a 4-bit code is worth: the kernel's arithmetic on the code's magnitude pattern and sign pattern, and the
  selection the reference makes on the code's bits, are one number for each of the sixteen codes.
-/
module

public import proofs.«01_k».proof.Proof.Words
public import Idealize.ShloMosaic.Lib.ValueIdx
public import Idealize.ShloMosaic.Lib.IdealHost

@[expose] public section

noncomputable section

namespace Nvfp4

open Idealize.ShloMosaic

/-- The number the kernel computes for a code: `min(f, (f - 1) + f)` times the sign, `f` the number whose pattern carries
    the code's magnitude bits above the exponent of one half. -/
def kernelValue (n : BitVec 4) : EReal :=
  min (Ideal.ofBits .bf16 (mag n + 0x3F00#16))
      (Ideal.ofBits .bf16 (mag n + 0x3F00#16) - Ideal.ofBits .bf16 0x3F80#16 + Ideal.ofBits .bf16 (mag n + 0x3F00#16))
    * Ideal.ofBits .bf16 (0x3F80#16 ||| sgn n)

/-- The magnitude of a code. -/
def magnitude : ℕ → ℝ
  | 0 => 0 | 1 => 1 / 2 | 2 => 1 | 3 => 3 / 2 | 4 => 2 | 5 => 3 | 6 => 4 | _ => 6

/-- The number a code stands for. -/
def codeValue (n : BitVec 4) : EReal :=
  (((if n.toNat < 8 then magnitude n.toNat else -magnitude (n.toNat - 8)) : ℝ) : EReal)

/-- A magnitude pattern with the exponent of one half added, as a number: one half, three quarters, … -/
theorem mag_value (n : Fin 8) : Ideal.ofBits .bf16 (mag (BitVec.ofNat 4 n.val) + 0x3F00#16)
    = ((![1/2, 3/4, 1, 3/2, 2, 3, 4, 6] n : ℝ) : EReal) := by
  fin_cases n <;> simp [Ideal.ofBits, Ideal.ieee, mag, -EReal.coe_mul] <;> norm_num

/-- The sign pattern as a number: one for the codes below eight, minus one for the others. -/
theorem sgn_value (n : BitVec 4) : Ideal.ofBits .bf16 (0x3F80#16 ||| sgn n) = (((if n.toNat < 8 then 1 else -1) : ℝ) : EReal) := by
  have key : ∀ n : BitVec 4, 0x3F80#16 ||| sgn n = if n.toNat < 8 then 0x3F80#16 else 0xBF80#16 := by decide
  rw [key]
  split
  · exact Ideal.ofBits_one_bf16
  · exact Ideal.ofBits_neg_one_bf16

/-- The magnitude of a code does not depend on its top bit. -/
theorem mag_low : ∀ n : BitVec 4, mag n = mag (BitVec.ofNat 4 (n.toNat % 8)) := by decide

/-- The kernel's arithmetic gives the number the code stands for. -/
theorem kernelValue_eq (n : BitVec 4) : kernelValue n = codeValue n := by
  have hn : n.toNat < 16 := n.isLt
  have h1 : Ideal.ofBits .bf16 (0x3F80#16) = ((1 : ℝ) : EReal) := Ideal.ofBits_one_bf16
  unfold kernelValue codeValue
  rw [sgn_value, mag_low, mag_value ⟨n.toNat % 8, Nat.mod_lt _ (by decide)⟩, h1, ← EReal.coe_sub, ← EReal.coe_add,
    ← EReal.coe_strictMono.monotone.map_min, ← EReal.coe_mul]
  generalize n.toNat = k at hn ⊢
  congr 1
  interval_cases k <;> norm_num [magnitude]

end Nvfp4
-- ==== Proof.TileValue.lean ====
/-
  The decoded weights as numbers: at row `k` and column `n` of a chunk stands the value of the code there times its
  block's scale.
-/
module

public import proofs.«01_k».proof.Proof.Tile
public import proofs.«01_k».proof.Proof.Values
public import Idealize.ShloMosaic.Lib.Pipeline.Value
public import Idealize.ShloMosaic.Lib.ValueLayout

@[expose] public section

set_option maxRecDepth 16384

noncomputable section

namespace Cert.KernelIdeal

open Cert.KernelIdeal.Gen
open Idealize.ShloMosaic Idealize.ShloMosaic.TcCoe Idealize.ShloMosaic.ValueIdx
open Nvfp4

/-- The byte of quarter `(e, f)` of a 256 × 256 chunk: row `q` of half `e`, column `a` of half `f`. -/
def byteAt (v : Vec Ideal S256x256 .i8) (e f : Fin 2) (q a : Fin 128) : BitVec 8 :=
  v (ix2 (⟨128 * e.val + q.val, by omega⟩ : Fin 256) (⟨128 * f.val + a.val, by omega⟩ : Fin 256))

/-- A quarter of the chunk, widened, at an index. -/
theorem quarter_apply (v : Vec Ideal S256x256 .i8) (e f : Fin 2) (h : S256x256.Slices ![128 * e.val, 128 * f.val] S128x128) (q a : Fin 128) :
    extractStridedSlice S128x128 ![128 * e.val, 128 * f.val] (extui 32 v natLt_8_32 : IVec S256x256 32) h (ix2 q a) = (byteAt v e f q a).setWidth 32 :=
  extractStridedSlice_apply _ _ h (ix2 q a) (ix2 (⟨128 * e.val + q.val, by omega⟩ : Fin 256) (⟨128 * f.val + a.val, by omega⟩ : Fin 256))
    fun c => match c with | ⟨0, _⟩ => rfl | ⟨1, _⟩ => rfl

/-- A shift left by a fixed amount, at an index. -/
theorem shl_apply (x : IVec S128x128 32) (n : BitVec 32) (hn : n.toNat < 32) (j : S128x128.Idx) : shli x (broadcast S128x128 n) j = x j <<< n := if_pos hn

/-- A shift right by a fixed amount, at an index. -/
theorem shr_apply (x : IVec S128x128 32) (n : BitVec 32) (hn : n.toNat < 32) (j : S128x128.Idx) : shrui x (broadcast S128x128 n) j = x j >>> n := if_pos hn

/-- The words of a chunk: four bytes to a word, their nibbles exchanged, transposed. -/
theorem word_apply (v : Vec Ideal S256x256 .i8) (a q : Fin 128) :
    k0_pay5 v (ix2 a q) = exchanged (byteAt v 0 0 q a) (byteAt v 1 0 q a) (byteAt v 0 1 q a) (byteAt v 1 1 q a) := by
  have h00 : extractStridedSlice S128x128 ![0, 0] (extui 32 v natLt_8_32 : IVec S256x256 32) slices_S256x256_o0_0_S128x128 (ix2 q a) = (byteAt v 0 0 q a).setWidth 32 := quarter_apply v 0 0 slices_S256x256_o0_0_S128x128 q a
  have h10 : extractStridedSlice S128x128 ![128, 0] (extui 32 v natLt_8_32 : IVec S256x256 32) slices_S256x256_o128_0_S128x128 (ix2 q a) = (byteAt v 1 0 q a).setWidth 32 := quarter_apply v 1 0 slices_S256x256_o128_0_S128x128 q a
  have h01 : extractStridedSlice S128x128 ![0, 128] (extui 32 v natLt_8_32 : IVec S256x256 32) slices_S256x256_o0_128_S128x128 (ix2 q a) = (byteAt v 0 1 q a).setWidth 32 := quarter_apply v 0 1 slices_S256x256_o0_128_S128x128 q a
  have h11 : extractStridedSlice S128x128 ![128, 128] (extui 32 v natLt_8_32 : IVec S256x256 32) slices_S256x256_o128_128_S128x128 (ix2 q a) = (byteAt v 1 1 q a).setWidth 32 := quarter_apply v 1 1 slices_S256x256_o128_128_S128x128 q a
  unfold exchanged swapBits pack
  rw [← h00, ← h10, ← h01, ← h11]
  unfold k0_pay5
  refine (transpose_ix2_apply _ transposes_S128x128_p1_0_S128x128 a q).trans ?_
  generalize extractStridedSlice S128x128 ![0, 0] (extui 32 v natLt_8_32 : IVec S256x256 32) slices_S256x256_o0_0_S128x128 = A
  generalize extractStridedSlice S128x128 ![128, 0] (extui 32 v natLt_8_32 : IVec S256x256 32) slices_S256x256_o128_0_S128x128 = B
  generalize extractStridedSlice S128x128 ![0, 128] (extui 32 v natLt_8_32 : IVec S256x256 32) slices_S256x256_o0_128_S128x128 = C
  generalize extractStridedSlice S128x128 ![128, 128] (extui 32 v natLt_8_32 : IVec S256x256 32) slices_S256x256_o128_128_S128x128 = D
  rw [← shl_apply B 8#32 (by decide), ← shl_apply C 16#32 (by decide), ← shl_apply D 24#32 (by decide)]
  rw [show A (ix2 q a) ||| shli B (broadcast S128x128 8#32) (ix2 q a) ||| shli C (broadcast S128x128 16#32) (ix2 q a) ||| shli D (broadcast S128x128 24#32) (ix2 q a)
    = ori (ori (ori A (shli B (broadcast S128x128 8#32))) (shli C (broadcast S128x128 16#32))) (shli D (broadcast S128x128 24#32)) (ix2 q a) from rfl]
  generalize ori (ori (ori A (shli B (broadcast S128x128 8#32))) (shli C (broadcast S128x128 16#32))) (shli D (broadcast S128x128 24#32)) = T
  rw [← shr_apply T 12#32 (by decide)]
  rw [show (T (ix2 q a) ^^^ shrui T (broadcast S128x128 12#32) (ix2 q a)) &&& 61680#32
    = andi (xori T (shrui T (broadcast S128x128 12#32))) (broadcast S128x128 61680#32) (ix2 q a) from rfl]
  rw [← shl_apply _ 12#32 (by decide)]
  rfl

/-- Two rows of 16-bit elements to one row of words: an element is a half of its word. -/
theorem half_apply (w : IVec S128x128 32) (p : Fin 256) (q : Fin 128) :
    bitcast S256x128 16 w bitcasts_S128x128_w32_S256x128_w16 (ix2 p q)
      = (w (ix2 (⟨p.val / 2, by omega⟩ : Fin 128) q)).extractLsb' (16 * (p.val % 2)) 16 := by
  rw [bitcast_32_16]
  have hr : S256x128.row (ix2 p q) = p.val := rfl
  congr 1
  refine congrArg w (funext fun a => ?_)
  match a with
  | ⟨0, _⟩ => exact Fin.ext (Shape.Bitcasts.srcIdx_row _ _ _ _ _ rfl)
  | ⟨1, _⟩ => exact Fin.ext (Shape.Bitcasts.srcIdx_other _ _ _ _ _ (by show ¬ (1 + 2 = 2); decide))

/-- The magnitude word and the sign word of a slot hold the two codes of the slot's byte. -/
theorem slot_words (v : Vec Ideal S256x256 .i8) (nh kh : Fin 2) (a q : Fin 128) :
    magShift (2 * nh.val + kh.val) (k0_pay5 v) (ix2 a q) &&& 29360576#32 = halves (mag (nib (byteAt v nh kh q a) 1)) (mag (nib (byteAt v nh kh q a) 0))
    ∧ sgnShift (2 * nh.val + kh.val) (k0_pay5 v) (ix2 a q) &&& 2147516416#32 = halves (sgn (nib (byteAt v nh kh q a) 1)) (sgn (nib (byteAt v nh kh q a) 0)) := by
  have hw := word_apply v a q
  have hl : ∀ n : BitVec 32, n.toNat < 32 → shli (k0_pay5 v) (broadcast S128x128 n) (ix2 a q) = k0_pay5 v (ix2 a q) <<< n := fun n hn => if_pos hn
  have hr : ∀ n : BitVec 32, n.toNat < 32 → shrui (k0_pay5 v) (broadcast S128x128 n) (ix2 a q) = k0_pay5 v (ix2 a q) >>> n := fun n hn => if_pos hn
  match nh, kh with
  | 0, 0 => exact ⟨by rw [show magShift (2 * (0 : Fin 2).val + (0 : Fin 2).val) (k0_pay5 v) = shli (k0_pay5 v) (broadcast S128x128 6#32) from rfl, hl _ (by decide), hw, mag_0],
      by rw [show sgnShift (2 * (0 : Fin 2).val + (0 : Fin 2).val) (k0_pay5 v) = shli (k0_pay5 v) (broadcast S128x128 12#32) from rfl, hl _ (by decide), hw, sgn_0]⟩
  | 0, 1 => exact ⟨by rw [show magShift (2 * (0 : Fin 2).val + (1 : Fin 2).val) (k0_pay5 v) = shli (k0_pay5 v) (broadcast S128x128 2#32) from rfl, hl _ (by decide), hw, mag_1],
      by rw [show sgnShift (2 * (0 : Fin 2).val + (1 : Fin 2).val) (k0_pay5 v) = shli (k0_pay5 v) (broadcast S128x128 8#32) from rfl, hl _ (by decide), hw, sgn_1]⟩
  | 1, 0 => exact ⟨by rw [show magShift (2 * (1 : Fin 2).val + (0 : Fin 2).val) (k0_pay5 v) = shrui (k0_pay5 v) (broadcast S128x128 2#32) from rfl, hr _ (by decide), hw, mag_2],
      by rw [show sgnShift (2 * (1 : Fin 2).val + (0 : Fin 2).val) (k0_pay5 v) = shli (k0_pay5 v) (broadcast S128x128 4#32) from rfl, hl _ (by decide), hw, sgn_2]⟩
  | 1, 1 => exact ⟨by rw [show magShift (2 * (1 : Fin 2).val + (1 : Fin 2).val) (k0_pay5 v) = shrui (k0_pay5 v) (broadcast S128x128 6#32) from rfl, hr _ (by decide), hw, mag_3],
      by rw [show sgnShift (2 * (1 : Fin 2).val + (1 : Fin 2).val) (k0_pay5 v) = k0_pay5 v from rfl, hw, sgn_3]⟩

/-- The magnitude number of a slot at an index. -/
theorem magBits_apply (v : Vec Ideal S256x256 .i8) (nh kh : Fin 2) (p : Fin 256) (q : Fin 128) :
    magBits (F := Ideal) (2 * nh.val + kh.val) (k0_pay5 v) (ix2 p q)
      = Ideal.ofBits .bf16 (mag (nib (byteAt v nh kh q ⟨p.val / 2, by omega⟩) (p.val % 2)) + 0x3F00#16) := by
  refine congrArg (Ideal.ofBits .bf16) ((half_apply _ p q).trans ?_)
  refine (congrArg (fun w : BitVec 32 => (w + 1056980736#32).extractLsb' (16 * (p.val % 2)) 16) (slot_words v nh kh ⟨p.val / 2, by omega⟩ q).1).trans ?_
  exact mag_half (fun h => nib (byteAt v nh kh q ⟨p.val / 2, by omega⟩) h.val) ⟨p.val % 2, Nat.mod_lt _ (by decide)⟩

/-- The sign of a slot at an index. -/
theorem sgnBits_apply (v : Vec Ideal S256x256 .i8) (nh kh : Fin 2) (p : Fin 256) (q : Fin 128) :
    sgnBits (F := Ideal) (2 * nh.val + kh.val) (k0_pay5 v) (ix2 p q)
      = Ideal.ofBits .bf16 (0x3F80#16 ||| sgn (nib (byteAt v nh kh q ⟨p.val / 2, by omega⟩) (p.val % 2))) := by
  refine congrArg (Ideal.ofBits .bf16) ((half_apply _ p q).trans ?_)
  refine (congrArg (fun w : BitVec 32 => (1065369472#32 ||| w).extractLsb' (16 * (p.val % 2)) 16) (slot_words v nh kh ⟨p.val / 2, by omega⟩ q).2).trans ?_
  exact sgn_half (fun h => nib (byteAt v nh kh q ⟨p.val / 2, by omega⟩) h.val) ⟨p.val % 2, Nat.mod_lt _ (by decide)⟩

/-- The decoded codes of a slot at an index: the number the code there stands for. -/
theorem codes_apply (v : Vec Ideal S256x256 .i8) (nh kh : Fin 2) (p : Fin 256) (q : Fin 128) :
    codes (F := Ideal) (2 * nh.val + kh.val) (k0_pay5 v) (ix2 p q) = codeValue (nib (byteAt v nh kh q ⟨p.val / 2, by omega⟩) (p.val % 2)) := by
  rw [← kernelValue_eq]
  unfold codes kernelValue
  rw [mulf_apply, minimumf_apply, addf_apply, subf_apply, magBits_apply, sgnBits_apply]
  rfl

/-- A band at an index: the code times the scale of its column. -/
theorem band_apply (w : FVec Ideal S256x128 .bf16) (row : Vec Ideal S1x128 .f32) (r : Fin 16) (h : Fin 16) (q : Fin 128) :
    band (F := Ideal) w row r (ix2 h q) = w (ix2 (⟨16 * r.val + h.val, by omega⟩ : Fin 256) q) * row (ix2 (0 : Fin 1) q) := by
  unfold band
  rw [mulf_apply, truncf_apply, shapeCast_self]
  refine congrArg₂ (· * ·) ?_ ?_
  · refine extractStridedSlice_apply _ _ _ (ix2 h q) (ix2 (⟨16 * r.val + h.val, by omega⟩ : Fin 256) q) fun c => ?_
    match c with
    | ⟨0, _⟩ => rfl
    | ⟨1, _⟩ => exact (Nat.zero_add _).symm
  · exact broadcastTo_1b_ab_apply row broadcasts_S1x128_S16x128 h q

/-- A tile at an index: the code times the scale of its column in the row's band. -/
theorem tile_apply (s : ℕ) (t : IVec S128x128 32) (rows : Fin 16 → Vec Ideal S1x128 .f32) (p : Fin 256) (q : Fin 128) :
    tile (F := Ideal) s t rows (ix2 p q) = codes (F := Ideal) s t (ix2 p q) * rows ⟨p.val / 16, by omega⟩ (ix2 (0 : Fin 1) q) := by
  unfold tile
  rw [shapeCast_self]
  generalize codes (F := Ideal) s t = w
  refine (concatenate_ofFn_apply (t := S256x128) (s₁ := S16x128) 0 (fun r : Fin 16 => band w (rows r) r) _ rfl 16 rfl (ix2 p q)
    ⟨p.val / 16, by omega⟩ rfl (ix2 (⟨p.val % 16, by omega⟩ : Fin 16) q) rfl ?_).trans ?_
  · intro b hb
    match b with
    | ⟨0, _⟩ => exact absurd rfl hb
    | ⟨1, _⟩ => rfl
  · rw [band_apply]
    exact congrArg (fun z => w (ix2 z q) * _) (Fin.ext (Nat.div_add_mod p.val 16))

/-- The transposed scales at an index. -/
theorem scales_apply (v : Vec Ideal S256x96 .fp8e4m3) (b : Fin 96) (n : Fin 256) :
    (k0_pay4 v (ix2 b n) : EReal) = v (ix2 n b) := by
  unfold k0_pay4
  refine (congrFun (shapeCast_self _ shapeCasts_S96x256_S96x256) (ix2 b n)).trans ?_
  exact transpose_ix2_apply _ transposes_S256x96_p1_0_S96x256 b n

/-- The decoded weight at row `k` and column `n` of a chunk: the number its code stands for times its block's scale. -/
theorem chunkWeight_apply (x2 : Vec Ideal S1280x768 .i8) (x3 : Vec Ideal S1280x96 .fp8e4m3) (k : Fin 1536) (n : Fin 1280) :
    (chunkWeight (F := Ideal) x2 x3 k n : EReal)
      = codeValue (nib (x2 (ix2 n (⟨k.val / 2, by omega⟩ : Fin 768))) (k.val % 2)) * (x3 (ix2 n (⟨k.val / 16, by omega⟩ : Fin 96)) : EReal) := by
  unfold chunkWeight chunkTile
  rw [tile_apply]
  refine congrArg₂ (· * ·) ?_ ?_
  · refine (codes_apply _ ⟨n.val / 128 % 2, by omega⟩ ⟨k.val / 256 % 2, by omega⟩ ⟨k.val % 256, by omega⟩ ⟨n.val % 128, by omega⟩).trans ?_
    have hb : ∀ z : BitVec 8, codeValue (nib z (k.val % 256 % 2)) = codeValue (nib z (k.val % 2)) := fun z => by
      rw [Nat.mod_mod_of_dvd _ (by decide : 2 ∣ 256)]
    refine (hb _).trans ?_
    refine congrArg (fun z => codeValue (nib (x2 z) (k.val % 2))) (funext fun a => Fin.ext ?_)
    match a with
    | ⟨0, _⟩ => show 256 * (n.val / 256) + 1 * (128 * (n.val / 128 % 2) + n.val % 128) = n.val; omega
    | ⟨1, _⟩ => show 256 * (k.val / 512) + 1 * (128 * (k.val / 256 % 2) + k.val % 256 / 2) = k.val / 2; omega
  · have e : (VecWindow.window (k0_pay4 (VecWindow.window x3 ![256 * (n.val / 256), 0] S256x96.size (inb_scales (n.val / 256) (by omega))))
        ![16 * (2 * (k.val / 512) + k.val / 256 % 2) + k.val % 256 / 16, 128 * (n.val / 128 % 2)] S1x128.size
        (inb_row (2 * (k.val / 512) + k.val / 256 % 2) (n.val / 128 % 2) ⟨k.val % 256 / 16, by omega⟩ (by omega) (by omega)) (ix2 (0 : Fin 1) (⟨n.val % 128, by omega⟩ : Fin 128)) : EReal)
        = k0_pay4 (VecWindow.window x3 ![256 * (n.val / 256), 0] S256x96.size (inb_scales (n.val / 256) (by omega)))
            (ix2 (⟨k.val / 16, by omega⟩ : Fin 96) (⟨n.val % 256, by omega⟩ : Fin 256)) := by
      refine congrArg (k0_pay4 _) (funext fun a => Fin.ext ?_)
      match a with
      | ⟨0, _⟩ => show 16 * (2 * (k.val / 512) + k.val / 256 % 2) + k.val % 256 / 16 + 1 * 0 = k.val / 16; omega
      | ⟨1, _⟩ => show 128 * (n.val / 128 % 2) + 1 * (n.val % 128) = n.val % 256; omega
    refine e.trans ((scales_apply _ _ _).trans ?_)
    refine congrArg x3 (funext fun a => Fin.ext ?_)
    match a with
    | ⟨0, _⟩ => show 256 * (n.val / 256) + 1 * (n.val % 256) = n.val; omega
    | ⟨1, _⟩ => show 0 + 1 * (k.val / 16) = k.val / 16; omega

end Cert.KernelIdeal
-- ==== Proof.Linear.lean ====
/-
  What the two programs compute: the linear layer whose weights are 4-bit codes under scales per block of 16 and one
  global scale.
-/
module

public import proofs.«01_k».proof.Proof.Values

@[expose] public section

noncomputable section

namespace Nvfp4

/-- The weight at output feature `n` and input feature `k`: the number its code stands for times its block's scale. Byte
    `k / 2` of row `n` holds the code, low half first; block `k / 16` holds the scale. -/
def weight (q : Fin 8960 → Fin 768 → BitVec 8) (s : Fin 8960 → Fin 96 → EReal) (n : Fin 8960) (k : Fin 1536) : EReal :=
  codeValue (nib (q n ⟨k.val / 2, by omega⟩) (k.val % 2)) * s n ⟨k.val / 16, by omega⟩

/-- The layer's output for row `i` of the batch (16 sequences of 2048 positions, one after the other) and feature `n`. -/
def linear (x : Fin 16 → Fin 2048 → Fin 1536 → EReal) (q : Fin 8960 → Fin 768 → BitVec 8) (s : Fin 8960 → Fin 96 → EReal) (g : EReal)
    (i : Fin 32768) (n : Fin 8960) : EReal :=
  (∑ k : Fin 1536, x ⟨i.val / 2048, by omega⟩ ⟨i.val % 2048, by omega⟩ k * weight q s n k) * g

open Idealize.ShloMosaic Idealize.ShloMosaic.ValueIdx

/-- The layer over arrays: activations `x`, code bytes `q`, block scales `s` and the global scale `g`, each read at indices. -/
def layer (x : FVec Ideal ⟨3, ![16, 2048, 1536]⟩ .bf16) (q : IVec ⟨2, ![8960, 768]⟩ 8) (s : FVec Ideal ⟨2, ![8960, 96]⟩ .fp8e4m3)
    (g : FVec Ideal ⟨1, ![1]⟩ .f32) : FVec Ideal ⟨2, ![32768, 8960]⟩ .bf16 := fun i =>
  linear (fun b r k => x (ix3 b r k)) (fun n j => q (ix2 n j)) (fun n b => s (ix2 n b)) (g (ix1 0)) (i 0) (i 1)

end Nvfp4
-- ==== Proof.Output.lean ====
/-
  The output array of the kernel as numbers: the linear layer over its arguments.
-/
module

public import proofs.«01_k».proof.Proof.Run
public import proofs.«01_k».proof.Proof.TileValue
public import proofs.«01_k».proof.Proof.Linear
public import Idealize.ShloMosaic.Lib.Pipeline.ValueKit
public import Idealize.ShloMosaic.Lib.ValueIdx
public import Idealize.ShloMosaic.PureOps.Ideal.Laws

@[expose] public section

set_option maxRecDepth 16384

noncomputable section

namespace Cert.KernelIdeal

open Cert.KernelIdeal.Gen
open Idealize.ShloMosaic.TcCoe Idealize.SL.Sem Idealize.ShloMosaic.ValueIdx
open Idealize.ShloMosaic hiding ix1 ix2 ix3
open Nvfp4

/-! ## One output block -/

/-- The left operand's row is the result's. -/
theorem lhs_row (j : S1024x1280.Idx) (q : dot_S1024x1536_S1536x1280_S1024x1280_1_0_0_1_n_n.contr.Idx) : (dot_S1024x1536_S1536x1280_S1024x1280_1_0_0_1_n_n.lhsIdx j q 0).val = (j 0).val := by
  unfold DotDims.lhsIdx
  rw [dif_neg (show ¬(0 : Fin S1024x1536.rank) ∈ dot_S1024x1536_S1536x1280_S1024x1280_1_0_0_1_n_n.lhsBatch by decide),
    dif_pos (show (0 : Fin S1024x1536.rank) ∈ dot_S1024x1536_S1536x1280_S1024x1280_1_0_0_1_n_n.lhsNonContracting by decide)]
  rfl

/-- The right operand's column is the result's. -/
theorem rhs_col (j : S1024x1280.Idx) (q : dot_S1024x1536_S1536x1280_S1024x1280_1_0_0_1_n_n.contr.Idx) : (dot_S1024x1536_S1536x1280_S1024x1280_1_0_0_1_n_n.rhsIdx j q 1).val = (j 1).val := by
  unfold DotDims.rhsIdx
  rw [dif_neg (show ¬(1 : Fin S1536x1280.rank) ∈ dot_S1024x1536_S1536x1280_S1024x1280_1_0_0_1_n_n.rhsBatch by decide),
    dif_pos (show (1 : Fin S1536x1280.rank) ∈ dot_S1024x1536_S1536x1280_S1024x1280_1_0_0_1_n_n.rhsNonContracting by decide)]
  rfl

/-- Where the body's product reads its left operand, the contraction counted by `k`. -/
theorem lhs_idx (j : S1024x1280.Idx) (k : Fin 1536) :
    dot_S1024x1536_S1536x1280_S1024x1280_1_0_0_1_n_n.lhsIdx j ((contrEquiv1 dot_S1024x1536_S1536x1280_S1024x1280_1_0_0_1_n_n 1536 rfl rfl).symm k) = ix2 (j 0) k := by
  have hk := contrEquiv1_symm_val dot_S1024x1536_S1536x1280_S1024x1280_1_0_0_1_n_n 1536 rfl rfl k
  exact funext fun a => Fin.ext (match a with
    | ⟨0, _⟩ => lhs_row _ _
    | ⟨1, _⟩ => (dot_S1024x1536_S1536x1280_S1024x1280_1_0_0_1_n_n.lhsIdx_val_of_single rfl j _).trans hk)

/-- Where it reads its right operand. -/
theorem rhs_idx (j : S1024x1280.Idx) (k : Fin 1536) :
    dot_S1024x1536_S1536x1280_S1024x1280_1_0_0_1_n_n.rhsIdx j ((contrEquiv1 dot_S1024x1536_S1536x1280_S1024x1280_1_0_0_1_n_n 1536 rfl rfl).symm k) = ix2 k (j 1) := by
  have hk := contrEquiv1_symm_val dot_S1024x1536_S1536x1280_S1024x1280_1_0_0_1_n_n 1536 rfl rfl k
  exact funext fun a => Fin.ext (match a with
    | ⟨0, _⟩ => (dot_S1024x1536_S1536x1280_S1024x1280_1_0_0_1_n_n.rhsIdx_val_of_single rfl j _).trans hk
    | ⟨1, _⟩ => rhs_col _ _)

/-- The product stored by the body, at an index: the row of `x` times the column of weights, times the global scale. -/
theorem product_apply (x1 : Vec Ideal S1024x1536 .bf16) (w : Vec Ideal S1536x1280 .bf16) (g : Elt Ideal .f32) (p : Fin 1024) (q : Fin 1280) :
    (k0_pay3 x1 w g (ix2 p q) : EReal) = (∑ k : Fin 1536, (x1 (ix2 p k) : EReal) * (w (ix2 k q) : EReal)) * (g : EReal) := by
  unfold k0_pay3
  rw [ValueIdx.truncf_apply, ValueIdx.mulf_apply, shapeCast_self]
  refine congrArg (fun z : EReal => z * (g : EReal)) ?_
  refine (Ideal.matmul_apply dot_S1024x1536_S1536x1280_S1024x1280_1_0_0_1_n_n none x1 w _ (ix2 p q)).trans ?_
  rw [← Equiv.sum_comp (contrEquiv1 dot_S1024x1536_S1536x1280_S1024x1280_1_0_0_1_n_n 1536 rfl rfl).symm]
  rw [show (constant (F := Ideal) S1024x1280 .f32 0x00000000#32 (ix2 p q) : EReal) = 0 from Ideal.ofBits_zero_f32, zero_add]
  exact Finset.sum_congr rfl fun k _ => by rw [lhs_idx, rhs_idx]; rfl

/-- An output block at an index. -/
theorem outBlock_apply (i : grid0.Coords) (x0 : Vec Ideal S1 .f32) (x1 : Vec Ideal S1024x1536 .bf16) (w : Vec Ideal S1536x8960 .bf16) (p : Fin 1024) (q : Fin 1280)
    (n : Fin 8960) (hn : n.val = 1280 * (i 1).val + q.val) :
    (outBlock i x0 x1 w (ix2 p q) : EReal) = (∑ k : Fin 1536, (x1 (ix2 p k) : EReal) * (w (ix2 k n) : EReal)) * (x0 (ix1 0) : EReal) := by
  unfold outBlock
  rw [product_apply]
  refine congrArg₂ (fun a b : EReal => a * b) (Finset.sum_congr rfl fun k _ => congrArg (fun b : EReal => (x1 (ix2 p k) : EReal) * b) ?_) ?_
  · refine congrArg w (funext fun a => Fin.ext ?_)
    match a with
    | ⟨0, _⟩ => exact (Nat.zero_add _).trans (Nat.one_mul _)
    | ⟨1, _⟩ => exact (congrArg (· + 1 * q.val) (off7_1 i)).trans (by rw [hn]; show 1280 * (i 1).val + 1 * q.val = _; omega)
  · exact congrArg x0 (funext fun a => match a with | ⟨0, _⟩ => rfl)

/-! ## The blocks at coordinates -/

variable (m : (ℓ : Loc nD τ sig) → Buf (Elt Ideal) ℓ)

theorem idx : ∀ t : Fin cfg0.N, win0_0.index t = ![0] ∧ win0_1.index t = ![t.val / 7, 0]
    ∧ win0_4.index t = ![t.val / 7, t.val % 7] :=
  (by decide +kernel : ∀ t : Fin grid0.N, _)

theorem idx_first : ∀ t : Fin cfg0.N, t.val < 7 → win0_2.index t = ![t.val, 0] ∧ win0_3.index t = ![t.val, 0] :=
  (by decide +kernel : ∀ t : Fin grid0.N, _)

/-- The block of `x` at a point: 1024 consecutive rows of the batch. -/
theorem x_block (c : Dev nD) (t : Fin cfg0.N) (p : Fin 1024) (k : Fin 1536) (a : Fin 32768) (ha : a.val = 1024 * (t.val / 7) + p.val) :
    ((iblk m c 1 t : Vec Ideal S1024x1536 .bf16) (ix2 p k) : EReal)
      = (m ((c : Thread nD τ).loc main_arg0) : FVec Ideal S16x2048x1536 .bf16) (ix3 (⟨a.val / 2048, by omega⟩ : Fin 16) (⟨a.val % 2048, by omega⟩ : Fin 2048) k) := by
  have hV : V m c main_v0 = shapeCast S32768x1536 (m ((c : Thread nD τ).loc main_arg0) : FVec Ideal S16x2048x1536 .bf16) shapeCasts_S16x2048x1536_S32768x1536 := by
    entry_read
    rfl
  have h1 : (iblk m c 1 t : Vec Ideal S1024x1536 .bf16) (ix2 p k) = (V m c main_v0 : FVec Ideal S32768x1536 .bf16) (ix2 a k) := by
    blk_ext [iblk, idx t]
    show t.val / 7 * 1024 + p.val = a.val; omega
  rw [h1, hV]
  refine shapeCast_apply _ shapeCasts_S16x2048x1536_S32768x1536 _ _ ?_
  rewrite [Shape.rowMajor_val_three, Shape.rowMajor_val_two]
  show (a.val / 2048 * 2048 + a.val % 2048) * 1536 + k.val = a.val * 1536 + k.val
  omega

/-- The codes block of a decoding point: the rows of the codes that belong to its chunk. -/
theorem codes_block (c : Dev nD) (t : Fin cfg0.N) (ht : t.val < 7) (q : Fin 1280) (j : Fin 768) (n : Fin 8960) (hn : n.val = 1280 * t.val + q.val) :
    (iblk m c 2 t : Vec Ideal S1280x768 .i8) (ix2 q j) = (m ((c : Thread nD τ).loc main_arg1) : IVec S8960x768 8) (ix2 n j) := by
  blk_ext [iblk, V, idx_first t ht]
  show t.val * 1280 + q.val = n.val; omega

/-- The scales block of a decoding point, likewise. -/
theorem scales_block (c : Dev nD) (t : Fin cfg0.N) (ht : t.val < 7) (q : Fin 1280) (b : Fin 96) (n : Fin 8960) (hn : n.val = 1280 * t.val + q.val) :
    (iblk m c 3 t : Vec Ideal S1280x96 .fp8e4m3) (ix2 q b) = (m ((c : Thread nD τ).loc main_arg2) : FVec Ideal S8960x96 .fp8e4m3) (ix2 n b) := by
  blk_ext [iblk, V, idx_first t ht]
  show t.val * 1280 + q.val = n.val; omega

/-- The global scale's block. -/
theorem g_block (c : Dev nD) (t : Fin cfg0.N) :
    (iblk m c 0 t : Vec Ideal S1 .f32) (ix1 0) = (m ((c : Thread nD τ).loc main_arg3) : FVec Ideal S1 .f32) (ix1 0) := by
  blk_ext [iblk, V, idx t]

/-! ## The decoded weights and the output array -/

/-- The decoded weight at row `k` and column `n`. -/
theorem decoded_apply (c : Dev nD) (k : Fin 1536) (n : Fin 8960) :
    (decoded m c (ix2 k n) : EReal)
      = weight (fun n j => (m ((c : Thread nD τ).loc main_arg1) : IVec S8960x768 8) (ix2 n j))
          (fun n b => (m ((c : Thread nD τ).loc main_arg2) : FVec Ideal S8960x96 .fp8e4m3) (ix2 n b)) n k := by
  have hp : (pointOf n).val = n.val / 1280 := rfl
  have h7 : (pointOf n).val < 7 := by rw [hp]; omega
  unfold decoded weight
  refine (chunkWeight_apply _ _ _ _).trans (congrArg₂ (fun a b : EReal => a * b) ?_ ?_)
  · exact congrArg (fun z : BitVec 8 => codeValue (nib z (k.val % 2))) (codes_block m c (pointOf n) h7 _ _ n (by rw [hp]; show n.val = 1280 * (n.val / 1280) + n.val % 1280; omega))
  · exact scales_block m c (pointOf n) h7 _ _ n (by rw [hp]; show n.val = 1280 * (n.val / 1280) + n.val % 1280; omega)

/-- The output array after the run is the linear layer over the arguments. -/
theorem output_eq (c : Dev nD) :
    (dats m 0 c).arrAt 4 cfg0.N
      = layer (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  have h0 : ((win0_4.blk t).view.emb y 0).val = t.val / 7 * 1024 + (y 0).val := by blk_simp [idx t]
  have h1 : ((win0_4.blk t).view.emb y 1).val = t.val % 7 * 1280 + (y 1).val := by blk_simp [idx t]
  generalize (win0_4.blk t).view.emb y = e at h0 h1 ⊢
  obtain ⟨a, n, rfl⟩ : ∃ (a : Fin 32768) (n : Fin 8960), e = ix2 a n := ⟨e 0, e 1, ValueIdx.eq_ix2 e⟩
  obtain ⟨p, q, rfl⟩ : ∃ (p : Fin 1024) (q : Fin 1280), y = ix2 p q := ⟨y 0, y 1, ValueIdx.eq_ix2 (y : S1024x1280.Idx)⟩
  replace h0 : a.val = t.val / 7 * 1024 + p.val := h0
  replace h1 : n.val = t.val % 7 * 1280 + q.val := h1
  refine (outBlock_apply (grid0.coords t) _ _ _ p q n (by rw [coord1, h1]; omega)).trans ?_
  refine congrArg₂ (fun a b : EReal => a * b) (Finset.sum_congr rfl fun k _ => congrArg₂ (fun a b : EReal => a * b) ?_ ?_) ?_
  · exact x_block m c t p k a (by omega)
  · exact decoded_apply m c k n
  · exact g_block m c t

end Cert.KernelIdeal
-- ==== Proof.RefValue.lean ====
/-
  The reference's result as numbers: the linear layer over its arguments. The selection it makes on a code's bits is the
  number the code stands for; the unpacked codes are the bytes' halves; the widened scales are the scales.
-/
module

public import proofs.«01_k».proof.Proof.RefRun
public import proofs.«01_k».proof.Proof.Linear
public import Idealize.ShloMosaic.Lib.Pipeline.ValueKit
public import Idealize.ShloMosaic.Lib.ValueIdx

@[expose] public section

set_option maxRecDepth 16384

noncomputable section

namespace Cert.ReferenceIdeal.Value

open Cert.ReferenceIdeal Cert.ReferenceIdeal.Gen Idealize.ShloMosaic.TcCoe Idealize.SL.Sem Idealize.ShloMosaic.ValueIdx
open Idealize.ShloMosaic hiding ix1 ix2 ix3
open Nvfp4

/-! ## The number of a code -/

/-- Whether bit `b` of a word is set, as the reference asks it. -/
def bitSet (w b : BitVec 32) : BitVec 1 := IntOp.cmpi .ne (IntOp.andi w b) 0#32

/-- The number the reference selects for a code: first by the code's bits 2, 1 and 0, then negated by bit 3. -/
def selected (w : BitVec 32) : EReal :=
  let f (b : BitVec 16) : EReal := Ideal.ofBits .bf16 b
  let v : EReal := Scalar.select (bitSet w 4#32)
    (Scalar.select (bitSet w 2#32) (Scalar.select (bitSet w 1#32) (f 0x40C0#16) (f 0x4080#16)) (Scalar.select (bitSet w 1#32) (f 0x4040#16) (f 0x4000#16)))
    (Scalar.select (bitSet w 2#32) (Scalar.select (bitSet w 1#32) (f 0x3FC0#16) (f 0x3F80#16)) (Scalar.select (bitSet w 1#32) (f 0x3F00#16) (f 0x0000#16)))
  Scalar.select (bitSet w 8#32) (-v) v

/-- The bf16 constants of the selection. -/
theorem consts :
    Ideal.ofBits .bf16 (0x40C0#16) = ((6 : ℝ) : EReal) ∧ Ideal.ofBits .bf16 (0x4080#16) = ((4 : ℝ) : EReal)
    ∧ Ideal.ofBits .bf16 (0x4040#16) = ((3 : ℝ) : EReal) ∧ Ideal.ofBits .bf16 (0x4000#16) = ((2 : ℝ) : EReal)
    ∧ Ideal.ofBits .bf16 (0x3FC0#16) = ((3 / 2 : ℝ) : EReal) ∧ Ideal.ofBits .bf16 (0x3F80#16) = ((1 : ℝ) : EReal)
    ∧ Ideal.ofBits .bf16 (0x3F00#16) = ((1 / 2 : ℝ) : EReal) ∧ Ideal.ofBits .bf16 (0x0000#16) = ((0 : ℝ) : EReal) := by
  refine ⟨?_, ?_, ?_, ?_, ?_, ?_, ?_, ?_⟩ <;> simp [Ideal.ofBits, Ideal.ieee, -EReal.coe_mul] <;> norm_num

/-- The selection on the bits of a code gives the number the code stands for. -/
theorem selected_eq (n : BitVec 4) : selected (n.setWidth 32) = codeValue n := by
  obtain ⟨c6, c4, c3, c2, c15, c1, c05, c0⟩ := consts
  have hb : ∀ n : BitVec 4, bitSet (n.setWidth 32) 8#32 = (if n.toNat / 8 = 1 then 1 else 0)
      ∧ bitSet (n.setWidth 32) 4#32 = (if n.toNat / 4 % 2 = 1 then 1 else 0)
      ∧ bitSet (n.setWidth 32) 2#32 = (if n.toNat / 2 % 2 = 1 then 1 else 0)
      ∧ bitSet (n.setWidth 32) 1#32 = (if n.toNat % 2 = 1 then 1 else 0) := by decide
  obtain ⟨h8, h4, h2, h1⟩ := hb n
  have hn : n.toNat < 16 := n.isLt
  unfold selected codeValue
  simp only [h8, h4, h2, h1, c6, c4, c3, c2, c15, c1, c05, c0]
  generalize n.toNat = k at hn ⊢
  interval_cases k <;> simp [Scalar.select, magnitude]

/-- The reference's decoded code at an index: the selection on the bits of the unpacked code there. -/
theorem val_main_v34_selected (e0 : (⟨S8960x1536, .i32⟩ : BufTy).Contents (Elt Ideal)) (i : S8960x1536.Idx) :
    (Read.val_main_v34 (F := Ideal) e0 i : EReal) = selected (e0 i) := by
  rfl

/-! ## The unpacked codes -/

variable (m : (ℓ : Loc nD τ sig) → Buf (Elt Ideal) ℓ)

/-- The low half of a byte, widened first. -/
theorem low_half : ∀ b : BitVec 8, b.setWidth 32 &&& 15#32 = (nib b 0).setWidth 32 := by decide

/-- The high half of a byte, widened first. -/
theorem high_half : ∀ b : BitVec 8, (b.setWidth 32).sshiftRight' 4#32 = (nib b 1).setWidth 32 := by decide

/-- The unpacked code of output feature `n` and input feature `k`: the half of byte `k / 2` that `k`'s parity names. -/
theorem codes_apply (c : Dev nD) (n : Fin 8960) (k : Fin 1536) :
    codes m c (ix2 n k) = (nib ((m ((c.tc : Thread nD τ).loc main_arg1) : IVec S8960x768 8) (ix2 n (⟨k.val / 2, by omega⟩ : Fin 768))) (k.val % 2)).setWidth 32 := by
  unfold codes
  generalize (m ((c.tc : Thread nD τ).loc main_arg1) : IVec S8960x768 8) = q
  refine (shapeCast_apply _ shapeCasts_S8960x768x2_S8960x1536 (ix2 n k)
    (ix3 n (⟨k.val / 2, by omega⟩ : Fin 768) (⟨k.val % 2, by omega⟩ : Fin 2)) ?_).trans ?_
  · rewrite [Shape.rowMajor_val_three, Shape.rowMajor_val_two]
    show (n.val * 768 + k.val / 2) * 2 + k.val % 2 = n.val * 1536 + k.val
    omega
  have hread : ∀ v : IVec S8960x768 32, broadcastInDim S8960x768x1 ![0, 1] bcast_S8960x768_S8960x768x1_0_1 v (ix3 n (⟨k.val / 2, by omega⟩ : Fin 768) (0 : Fin 1))
      = v (ix2 n (⟨k.val / 2, by omega⟩ : Fin 768)) := fun v =>
    broadcastInDim_apply _ bcast_S8960x768_S8960x768x1_0_1 v _ _ (fun a => match a with
      | ⟨0, _⟩ => by show n.val = if (8960 : Nat) = 1 then 0 else n.val; rw [if_neg (by decide)]
      | ⟨1, _⟩ => by show k.val / 2 = if (768 : Nat) = 1 then 0 else k.val / 2; rw [if_neg (by decide)])
  rcases Nat.mod_two_eq_zero_or_one k.val with h | h
  · refine (concatenate_pair_apply_left 2 _ _ concatenates_S8960x768x1_S8960x768x1_S8960x768x2_d2 _ rfl
      (ix3 n (⟨k.val / 2, by omega⟩ : Fin 768) (0 : Fin 1)) ?_).trans ?_
    · intro b
      match b with
      | ⟨0, _⟩ => rfl
      | ⟨1, _⟩ => rfl
      | ⟨2, _⟩ => exact h.symm
    · rw [hread, h]
      exact low_half _
  · refine (concatenate_pair_apply_right 2 _ _ concatenates_S8960x768x1_S8960x768x1_S8960x768x2_d2 _ rfl rfl
      (ix3 n (⟨k.val / 2, by omega⟩ : Fin 768) (0 : Fin 1)) ?_ ?_).trans ?_
    · intro b hb
      match b with
      | ⟨0, _⟩ => rfl
      | ⟨1, _⟩ => rfl
      | ⟨2, _⟩ => exact absurd rfl hb
    · show 0 + 1 = k.val % 2; omega
    · rw [hread, h]
      exact high_half _

/-! ## The widened scales -/

theorem idx : ∀ t : Fin cfg0.N, win0_0.index t = ![0, 0] ∧ win0_1.index t = ![0, 0] :=
  (by decide +kernel : ∀ t : Fin grid0.N, _)

/-- The widened scales are the scales. -/
theorem scales_eq (c : Dev nD) (i : S8960x96.Idx) :
    ((reg_main_v9 m c : FVec Ideal S8960x96 .bf16) i : EReal) = (m ((c.tc : Thread nD τ).loc main_arg2) : FVec Ideal S8960x96 .fp8e4m3) i := by
  have h : reg_main_v9 m c = (fun i => (m ((c.tc : Thread nD τ).loc main_arg2) : FVec Ideal S8960x96 .fp8e4m3) i : FVec Ideal S8960x96 .bf16) := by
    unfold reg_main_v9
    refine (Gen.dats m 0 c).arrAt_eq_of_covers 1 _ (by decide +kernel) fun t _ y => ?_
    blk_simp
    rw [after0_1]; frame_out
    pointwise [k0_pay1]
    blk_point [iblk, V, idx t]
  exact congrFun h i

/-! ## The result -/

/-- The reference's decoded weight of output feature `n` and input feature `k`. -/
theorem weight_apply (c : Dev nD) (n : Fin 8960) (k : Fin 1536) :
    (Read.val_main_v39 (F := Ideal) (reg_main_v9 m c) (codes m c) (ix2 n k) : EReal)
      = weight (fun n j => (m ((c.tc : Thread nD τ).loc main_arg1) : IVec S8960x768 8) (ix2 n j))
          (fun n b => (m ((c.tc : Thread nD τ).loc main_arg2) : FVec Ideal S8960x96 .fp8e4m3) (ix2 n b)) n k := by
  have hc := codes_apply m c n k
  have hs := scales_eq m c (ix2 n (⟨k.val / 16, by omega⟩ : Fin 96))
  unfold weight
  refine Eq.trans ?_ (congrArg₂ (fun a b : EReal => a * b) ((congrArg selected hc).trans (selected_eq _)) hs)
  generalize (reg_main_v9 m c : FVec Ideal S8960x96 .bf16) = r
  generalize codes m c = e
  refine (Read.val_main_v39_apply (F := Ideal) r e _).trans ?_
  rw [Read.val_main_v38_apply]
  refine congrArg₂ (fun a b : EReal => a * b) ?_ ?_
  · refine (Read.val_main_v35_apply (F := Ideal) e _).trans ((val_main_v34_selected e _).trans (congrArg (fun z => selected (e z)) (funext fun a => Fin.ext ?_)))
    match a with
    | ⟨0, _⟩ => show (((n.val * 1536 + k.val) / 1536 * 96 + (n.val * 1536 + k.val) / 16 % 96) * 16 + (n.val * 1536 + k.val) % 16) / 1536 = n.val; omega
    | ⟨1, _⟩ => show (((n.val * 1536 + k.val) / 1536 * 96 + (n.val * 1536 + k.val) / 16 % 96) * 16 + (n.val * 1536 + k.val) % 16) % 1536 = k.val; omega
  · refine (Read.val_main_v37_apply (F := Ideal) r _).trans ((Read.val_main_v36_apply (F := Ideal) r _).trans (congrArg r (funext fun a => Fin.ext ?_)))
    match a with
    | ⟨0, _⟩ => show (n.val * 1536 + k.val) / 1536 = n.val; omega
    | ⟨1, _⟩ => show (n.val * 1536 + k.val) / 16 % 96 = k.val / 16; omega

/-- The reference's result is the linear layer over its arguments. -/
theorem result_eq (c : Dev nD) :
    result m c = layer (m ((c.tc : Thread nD τ).loc main_arg0)) (m ((c.tc : Thread nD τ).loc main_arg1)) (m ((c.tc : Thread nD τ).loc main_arg2)) (m ((c.tc : Thread nD τ).loc main_arg3)) := by
  funext i
  obtain ⟨a, n, rfl⟩ : ∃ (a : Fin 32768) (n : Fin 8960), i = ix2 a n := ⟨i 0, i 1, ValueIdx.eq_ix2 i⟩
  unfold result
  have hw := weight_apply m c n
  generalize (reg_main_v9 m c : FVec Ideal S8960x96 .bf16) = r at hw ⊢
  generalize codes m c = e at hw ⊢
  refine (Read.val_main_v45_apply (F := Ideal) _ _ r e _).trans ?_
  rw [Read.val_main_v44_apply, Read.val_main_v43_apply]
  refine congrArg₂ (fun a b : EReal => a * b) ?_ ?_
  · refine (Read.val_main_v40_apply _ r e _).trans (Finset.sum_congr rfl fun k _ => congrArg₂ (fun a b : EReal => a * b) ?_ (Eq.trans ?_ (hw k)))
    · refine congrArg (m ((c.tc : Thread nD τ).loc main_arg0) : FVec Ideal S16x2048x1536 .bf16) (funext fun d => Fin.ext ?_)
      match d with
      | ⟨0, _⟩ => show (a.val * 8960 + n.val) / 18350080 = a.val / 2048; omega
      | ⟨1, _⟩ => show (a.val * 8960 + n.val) / 8960 % 2048 = a.val % 2048; omega
      | ⟨2, _⟩ => rfl
    · refine congrArg (Read.val_main_v39 (F := Ideal) r e) (funext fun d => Fin.ext ?_)
      match d with
      | ⟨0, _⟩ => show (a.val * 8960 + n.val) % 8960 = n.val; omega
      | ⟨1, _⟩ => rfl
  · refine (Read.val_main_v42_apply (F := Ideal) _ _).trans ?_
    exact shapeCast_apply _ shapeCasts_S1_S_ _ _ rfl

end Cert.ReferenceIdeal.Value
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Run
public import proofs.«01_k».proof.Proof.KernelFrame.Run
public import proofs.«01_k».proof.Proof.RefRun
public import proofs.«01_k».proof.Proof.Output
public import proofs.«01_k».proof.Proof.RefValue
public import Idealize.ShloMosaic.Adequacy
public import Idealize.ShloMosaic.Init

@[expose] public section

noncomputable section

namespace Cert.Proof

open Idealize.ShloMosaic Idealize.SL.Sem Cert.Kernel

/-- Kernel and reference compute one function over the extended reals: the linear layer over the arguments. -/
theorem algebraic : Cert.algebraic_KernelIdeal_ReferenceIdeal := by
  intro m g m' g' _ hargs
  refine ⟨fun c => (Cert.KernelIdeal.dats m 0 c).arrAt 4 Cert.KernelIdeal.cfg0.N, ?_, ?_⟩
  · refine (θ_run _ _ _).mono (fun r h c => ⟨?_, ?_⟩) (θ_run_and (Cert.KernelIdeal.run_main m g) (Cert.KernelIdeal.unchanged m g))
    · exact (h.1 c).1 4
    · exact h.2 c
  · refine (θ_run _ _ _).mono (fun r h c => ⟨?_, (h c).2⟩) (Cert.ReferenceIdeal.Value.run m' g')
    obtain ⟨h0, h1, h2, h3⟩ := hargs c
    refine (h c).1.trans ((Cert.ReferenceIdeal.Value.result_eq m' c).trans (Eq.trans ?_ (Cert.KernelIdeal.output_eq m c).symm))
    rw [h0, h1, h2, h3]

/-- The five claims. -/
theorem claim : Cert.Claim := ⟨Cert.Kernel.Gen.facts, Cert.KernelIdeal.Gen.facts, Cert.ReferenceIdeal.Gen.facts,
  fun m g _ => Cert.Kernel.frame m g, fun m g _ => Cert.KernelIdeal.frame m g, fun m g _ => Cert.ReferenceIdeal.Gen.frame m g, trivial, algebraic⟩

end Cert.Proof

end
